-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2048x8x256 : Shape := ⟨3, ![2048, 8, 256]⟩
abbrev S8x256 : Shape := ⟨2, ![8, 256]⟩
abbrev S8 : Shape := ⟨1, ![8]⟩
abbrev S_ : Shape := ⟨0, ![]⟩

class Facts : Prop where
  bcast_S_S2048x8x256 : S_.BroadcastsInDim S2048x8x256 (![] : Fin 0 → Fin S2048x8x256.rank)
  reducesTo_S2048x8x256_S_d0_1_2 : S2048x8x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : IVec S8 32) (main_v5 : IVec S_ 1) (main_v11 : IVec S_ 1) (main_v14 : IVec S_ 1) (main_c_6 : IVec S_ 32) : IVec S_ 1 :=
  let main_v15 : IVec S8 32 := broadcastInDim S8 ![] bcast_S_S8 main_c_6
  let main_v16 : IVec S8 1 := cmpi .sge main_arg3 main_v15
  let main_c_7 : IVec S_ 32 := constantI S_ 32 256#32
  let main_v17 : IVec S8 32 := broadcastInDim S8 ![] bcast_S_S8 main_c_7
  let main_v18 : IVec S8 1 := cmpi .sle main_arg3 main_v17
  let main_v19 : IVec S8 1 := andi main_v16 main_v18
  let main_c_8 : IVec S_ 1 := constantI S_ 1 1#1
  let main_v20 : IVec S_ 1 := (fun x v => Host.reduce IntOp.andi x v reducesTo_S8_S_d0 h_S_) main_v19 main_c_8
  let main_v21 : IVec S_ 1 := andi main_v5 main_v11
  let main_v22 : IVec S_ 1 := andi main_v21 main_v14
  let main_v23 : IVec S_ 1 := andi main_v22 main_v20
  main_v23

def fn {F : FTy → Type} [FloatOps F] (main_arg0 : FVec F S2048x8x256 .f32) (main_arg1 : IVec S8x256 32) (main_arg2 : IVec S8 32) (main_arg3 : IVec S8 32) : IVec S_ 1 :=
  let main_cst : FVec F S_ .f32 := constant S_ .f32 0xFF800000#32
  let main_v0 : FVec F S2048x8x256 .f32 := broadcastInDim S2048x8x256 ![] bcast_S_S2048x8x256 main_cst
  let main_v1 : IVec S2048x8x256 1 := cmpf .ogt main_arg0 main_v0
  let main_cst_0 : FVec F S_ .f32 := constant S_ .f32 0x7F800000#32
  let main_v2 : FVec F S2048x8x256 .f32 := broadcastInDim S2048x8x256 ![] bcast_S_S2048x8x256 main_cst_0
  let main_v3 : IVec S2048x8x256 1 := cmpf .olt main_arg0 main_v2
  let main_v4 : IVec S2048x8x256 1 := andi main_v1 main_v3
  let main_c : IVec S_ 1 := constantI S_ 1 1#1
  let main_v5 : IVec S_ 1 := (fun x v => Host.reduce IntOp.andi x v reducesTo_S2048x8x256_S_d0_1_2 h_S_) main_v4 main_c
  let main_c_1 : IVec S_ 32 := constantI S_ 32 0#32
  let main_v6 : IVec S8x256 32 := broadcastInDim S8x256 ![] bcast_S_S8x256 main_c_1
  let main_v7 : IVec S8x256 1 := cmpi .sge main_arg1 main_v6
  let main_c_2 : IVec S_ 32 := constantI S_ 32 256#32
  let main_v8 : IVec S8x256 32 := broadcastInDim S8x256 ![] bcast_S_S8x256 main_c_2
  let main_v9 : IVec S8x256 1 := cmpi .slt main_arg1 main_v8
  let main_v10 : IVec S8x256 1 := andi main_v7 main_v9
  let main_c_3 : IVec S_ 1 := constantI S_ 1 1#1
  let main_v11 : IVec S_ 1 := (fun x v => Host.reduce IntOp.andi x v reducesTo_S8x256_S_d0_1 h_S_) main_v10 main_c_3
  let main_c_4 : IVec S_ 32 := constantI S_ 32 2048#32
  let main_v12 : IVec S8 32 := broadcastInDim S8 ![] bcast_S_S8 main_c_4
  let main_v13 : IVec S8 1 := cmpi .eq main_arg2 main_v12
  let main_c_5 : IVec S_ 1 := constantI S_ 1 1#1
  let main_v14 : IVec S_ 1 := (fun x v => Host.reduce IntOp.andi x v reducesTo_S8_S_d0 h_S_) main_v13 main_c_5
  let main_c_6 : IVec S_ 32 := constantI S_ 32 1#32
  fn_part1 (F := F) main_arg3 main_v5 main_v11 main_v14 main_c_6
-- ==== Kernel.lean ====
abbrev S2048x8x256 : Shape := ⟨3, ![2048, 8, 256]⟩
abbrev S8x256 : Shape := ⟨2, ![8, 256]⟩
abbrev S8 : Shape := ⟨1, ![8]⟩
abbrev S_ : Shape := ⟨0, ![]⟩
abbrev S8x1 : Shape := ⟨2, ![8, 1]⟩
abbrev S8x255 : Shape := ⟨2, ![8, 255]⟩
abbrev S256 : Shape := ⟨1, ![256]⟩
abbrev S1x256 : Shape := ⟨2, ![1, 256]⟩
abbrev S1x1 : Shape := ⟨2, ![1, 1]⟩
abbrev S256x256 : Shape := ⟨2, ![256, 256]⟩
abbrev S1x2048 : Shape := ⟨2, ![1, 2048]⟩
abbrev S2048x1x256 : Shape := ⟨3, ![2048, 1, 256]⟩
abbrev S2048x256 : Shape := ⟨2, ![2048, 256]⟩
abbrev S8x2 : Shape := ⟨2, ![8, 2]⟩
abbrev S1x8x256 : Shape := ⟨3, ![1, 8, 256]⟩
abbrev S8x254 : Shape := ⟨2, ![8, 254]⟩
abbrev S1x8x1 : Shape := ⟨3, ![1, 8, 1]⟩
abbrev S1 : Shape := ⟨1, ![1]⟩
abbrev S1x1x1 : Shape := ⟨3, ![1, 1, 1]⟩

abbrev nBuf : Space → Nat
  | .hbm => 28
  | .vmem => 10
  | .smem => 0
  | _ => 0

abbrev bufTy : (tb : Table) → Fin (tcTables nBuf tb) → BufTy
  | .hbm, ⟨0, _⟩ => ⟨S2048x8x256, .f32⟩
  | .hbm, ⟨1, _⟩ => ⟨S8x256, .i32⟩
  | .hbm, ⟨2, _⟩ => ⟨S8, .i32⟩
  | .hbm, ⟨3, _⟩ => ⟨S8, .i32⟩
  | .hbm, ⟨4, _⟩ => ⟨S_, .i32⟩
  | .hbm, ⟨5, _⟩ => ⟨S8x1, .i32⟩
  | .hbm, ⟨6, _⟩ => ⟨S8x255, .i32⟩
  | .hbm, ⟨7, _⟩ => ⟨S8x256, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S1x256, .i32⟩
  | .hbm, ⟨12, _⟩ => ⟨S1x256, .i1⟩
  | .hbm, ⟨13, _⟩ => ⟨S_, .i32⟩
  | .hbm, ⟨14, _⟩ => ⟨S8x256, .i32⟩
  | .hbm, ⟨15, _⟩ => ⟨S8x256, .i1⟩
  | .hbm, ⟨16, _⟩ => ⟨S8x256, .i1⟩
  | .hbm, ⟨17, _⟩ => ⟨S8x256, .i1⟩
  | .hbm, ⟨18, _⟩ => ⟨S8x256, .i1⟩
  | .hbm, ⟨19, _⟩ => ⟨S8x256, .i1⟩
  | .hbm, ⟨20, _⟩ => ⟨S8x256, .f32⟩
  | .hbm, ⟨21, _⟩ => ⟨S_, .f32⟩
  | .hbm, ⟨22, _⟩ => ⟨S8x1, .f32⟩
  | .hbm, ⟨23, _⟩ => ⟨S8x255, .f32⟩
  | .hbm, ⟨24, _⟩ => ⟨S8x256, .f32⟩
  | .hbm, ⟨25, _⟩ => ⟨S8x1, .i32⟩
  | .hbm, ⟨26, _⟩ => ⟨S1x1, .f32⟩
  | .hbm, ⟨27, _⟩ => ⟨S_, .f32⟩
  | .local _ .vmem, ⟨0, _⟩ => ⟨S2048x8x256, .f32⟩
  | .local _ .vmem, ⟨1, _⟩ => ⟨S8x256, .i32⟩
  | .local _ .vmem, ⟨2, _⟩ => ⟨S8x256, .i32⟩
  | .local _ .vmem, ⟨3, _⟩ => ⟨S8x256, .f32⟩
  | .local _ .vmem, ⟨4, _⟩ => ⟨S8x256, .f32⟩
  | .local _ .vmem, ⟨5, _⟩ => ⟨S8x1, .i32⟩
  | .local _ .vmem, ⟨6, _⟩ => ⟨S1x1, .f32⟩
  | .local _ .vmem, ⟨7, _⟩ => ⟨S2048x8x256, .f32⟩
  | .local _ .vmem, ⟨8, _⟩ => ⟨S2048x8x256, .f32⟩
  | .local _ .vmem, ⟨9, _⟩ => ⟨S8x256, .f32⟩
  | _, _ => ⟨S2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_127 : BitVec 32 := 0#32
  let c1023_i32 : BitVec 32 := 1023#32
  let v242 : BitVec 32 := Scalar.addi c0_i32_127 c1023_i32
  let c1_i32 : BitVec 32 := 1#32
  ⟨c0_i32_127, v242, c1_i32⟩
def k0_off1 (k0_t1 : Fin k0_t1_loop.trips) : Fin 3 → Nat :=
  let c1_i32_149 : BitVec 32 := 1#32
  let c2_i32 : BitVec 32 := 2#32
  let c0_i32_127 : BitVec 32 := 0#32
  let c1_i32 : BitVec 32 := 1#32
  let arg10 : BitVec 32 := Scf.iv c0_i32_127 c1_i32 k0_t1
  let v328 : BitVec 32 := Scalar.muli c2_i32 arg10
  let v329 : BitVec 32 := Scalar.addi c1_i32_149 v328
  let v330 : Index := Scalar.indexCast v329
  let c0_150 : Index := 0#32
  let c0_151 : Index := 0#32
  ![v330.toNat, 0, 0]
def k0_off2 (k0_t1 : Fin k0_t1_loop.trips) : Fin 3 → Nat :=
  let c1_i32_149 : BitVec 32 := 1#32
  let c2_i32 : BitVec 32 := 2#32
  let c0_i32_127 : BitVec 32 := 0#32
  let c1_i32 : BitVec 32 := 1#32
  let arg10 : BitVec 32 := Scf.iv c0_i32_127 c1_i32 k0_t1
  let v328 : BitVec 32 := Scalar.muli c2_i32 arg10
  let v329 : BitVec 32 := Scalar.addi c1_i32_149 v328
  let c1_i32_154 : BitVec 32 := 1#32
  let v336 : BitVec 32 := Scalar.addi v329 c1_i32_154
  let v337 : Index := Scalar.indexCast v336
  let c0_155 : Index := 0#32
  let c0_156 : Index := 0#32
  ![v337.toNat, 0, 0]
abbrev stage0_0 : Fin 1 → Memref sig .tc .vmem S2048x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2048x8x256 : Shape := ⟨3, ![2048, 8, 256]⟩
abbrev S8x256 : Shape := ⟨2, ![8, 256]⟩
abbrev S8 : Shape := ⟨1, ![8]⟩
abbrev S_ : Shape := ⟨0, ![]⟩
abbrev S8x256x1 : Shape := ⟨3, ![8, 256, 1]⟩
abbrev S8x256x2 : Shape := ⟨3, ![8, 256, 2]⟩
abbrev S8x512 : Shape := ⟨2, ![8, 512]⟩
abbrev S8x1 : Shape := ⟨2, ![8, 1]⟩
abbrev S8x513 : Shape := ⟨2, ![8, 513]⟩
abbrev S1x8x513 : Shape := ⟨3, ![1, 8, 513]⟩
abbrev S2048x8x513 : Shape := ⟨3, ![2048, 8, 513]⟩
abbrev S2048x8x513x1 : Shape := ⟨4, ![2048, 8, 513, 1]⟩
abbrev S1 : Shape := ⟨1, ![1]⟩
abbrev S1x1x1x1 : Shape := ⟨4, ![1, 1, 1, 1]⟩
abbrev S8x2 : Shape := ⟨2, ![8, 2]⟩
abbrev S8x511 : Shape := ⟨2, ![8, 511]⟩
abbrev S513 : Shape := ⟨1, ![513]⟩
abbrev S1x513 : Shape := ⟨2, ![1, 513]⟩
abbrev S2047x8x513 : Shape := ⟨3, ![2047, 8, 513]⟩
abbrev S3x8x513 : Shape := ⟨3, ![3, 8, 513]⟩
abbrev S1x8 : Shape := ⟨2, ![1, 8]⟩
abbrev S2x8 : Shape := ⟨2, ![2, 8]⟩

abbrev nBuf : Space → Nat
  | .hbm => 223
  | .vmem => 0
  | .smem => 0
  | _ => 0

abbrev hbmTy0_0 (i : Nat) : BufTy := match i % 128 with
  | 0 => ⟨S2048x8x256, .f32⟩
  | 1 => ⟨S8x256, .i32⟩
  | 2 => ⟨S8, .i32⟩
  | 3 => ⟨S8, .i32⟩
  | 4 => ⟨S_, .i32⟩
  | 5 => ⟨S8x256, .i32⟩
  | 6 => ⟨S8x256x1, .i32⟩
  | 7 => ⟨S8x256x1, .i32⟩
  | 8 => ⟨S8x256x2, .i32⟩
  | 9 => ⟨S8x512, .i32⟩
  | 10 => ⟨S_, .i32⟩
  | 11 => ⟨S8x1, .i32⟩
  | 12 => ⟨S8x513, .i32⟩
  | 13 => ⟨S1x8x513, .i32⟩
  | 14 => ⟨S2048x8x513, .i32⟩
  | 15 => ⟨S_, .i32⟩
  | 16 => ⟨S2048x8x513, .i32⟩
  | 17 => ⟨S2048x8x513, .i1⟩
  | 18 => ⟨S_, .i32⟩
  | 19 => ⟨S2048x8x513, .i32⟩
  | 20 => ⟨S2048x8x513, .i32⟩
  | 21 => ⟨S2048x8x513, .i32⟩
  | 22 => ⟨S2048x8x513x1, .i32⟩
  | 23 => ⟨S1, .i32⟩
  | 24 => ⟨S_, .i32⟩
  | 25 => ⟨S2048x8x513x1, .i32⟩
  | 26 => ⟨S2048x8x513x1, .i1⟩
  | 27 => ⟨S1x1x1x1, .i32⟩
  | 28 => ⟨S2048x8x513x1, .i32⟩
  | 29 => ⟨S2048x8x513x1, .i1⟩
  | 30 => ⟨S2048x8x513x1, .i1⟩
  | 31 => ⟨S_, .i1⟩
  | 32 => ⟨S2048x8x513, .i1⟩
  | 33 => ⟨S2048x8x513, .f32⟩
  | 34 => ⟨S_, .f32⟩
  | 35 => ⟨S2048x8x513, .f32⟩
  | 36 => ⟨S2048x8x513, .f32⟩
  | 37 => ⟨S_, .i32⟩
  | 38 => ⟨S8x2, .i32⟩
  | 39 => ⟨S8x511, .i32⟩
  | 40 => ⟨S8x513, .i32⟩
  | 41 => ⟨S513, .i32⟩
  | 42 => ⟨S1x513, .i32⟩
  | 43 => ⟨S_, .i32⟩
  | 44 => ⟨S1x513, .i32⟩
  | 45 => ⟨S1x513, .i1⟩
  | 46 => ⟨S_, .i32⟩
  | 47 => ⟨S8x513, .i32⟩
  | 48 => ⟨S8x513, .i1⟩
  | 49 => ⟨S8x513, .i1⟩
  | 50 => ⟨S8x513, .i1⟩
  | 51 => ⟨S8x513, .i1⟩
  | 52 => ⟨S8x513, .i1⟩
  | 53 => ⟨S513, .i32⟩
  | 54 => ⟨S1x513, .i32⟩
  | 55 => ⟨S_, .i32⟩
  | 56 => ⟨S1x513, .i32⟩
  | 57 => ⟨S1x513, .i1⟩
  | 58 => ⟨S1x8x513, .f32⟩
  | 59 => ⟨S8x513, .f32⟩
  | 60 => ⟨S_, .f32⟩
  | 61 => ⟨S_, .f32⟩
  | 62 => ⟨S8x513, .i1⟩
  | 63 => ⟨S8x513, .f32⟩
  | 64 => ⟨S8x513, .f32⟩
  | 65 => ⟨S2047x8x513, .f32⟩
  | 66 => ⟨S_, .f32⟩
  | 67 => ⟨S2047x8x513, .f32⟩
  | 68 => ⟨S_, .i32⟩
  | 69 => ⟨S2047x8x513, .f32⟩
  | 70 => ⟨S8x513, .i1⟩
  | 71 => ⟨S_, .i32⟩
  | 72 => ⟨S8x513, .f32⟩
  | 73 => ⟨S2047x8x513, .f32⟩
  | 74 => ⟨S_, .i32⟩
  | 75 => ⟨S_, .i1⟩
  | 76 => ⟨S_, .i32⟩
  | 77 => ⟨S_, .i32⟩
  | 78 => ⟨S1x8x513, .f32⟩
  | 79 => ⟨S8x513, .f32⟩
  | 80 => ⟨S_, .f32⟩
  | 81 => ⟨S8x1, .f32⟩
  | 82 => ⟨S8x512, .f32⟩
  | 83 => ⟨S8x513, .f32⟩
  | 84 => ⟨S_, .f32⟩
  | 85 => ⟨S8x2, .f32⟩
  | 86 => ⟨S8x511, .f32⟩
  | 87 => ⟨S8x513, .f32⟩
  | 88 => ⟨S_, .f32⟩
  | 89 => ⟨S_, .f32⟩
  | 90 => ⟨S8x513, .f32⟩
  | 91 => ⟨S8x513, .f32⟩
  | 92 => ⟨S1x8x513, .f32⟩
  | 93 => ⟨S1x8x513, .f32⟩
  | 94 => ⟨S1x8x513, .f32⟩
  | 95 => ⟨S3x8x513, .f32⟩
  | 96 => ⟨S_, .f32⟩
  | 97 => ⟨S8x513, .f32⟩
  | 98 => ⟨S_, .f32⟩
  | 99 => ⟨S8x513, .f32⟩
  | 100 => ⟨S8x513, .i1⟩
  | 101 => ⟨S_, .f32⟩
  | 102 => ⟨S_, .f32⟩
  | 103 => ⟨S8x513, .f32⟩
  | 104 => ⟨S8x513, .f32⟩
  | 105 => ⟨S1x8x513, .f32⟩
  | 106 => ⟨S3x8x513, .f32⟩
  | 107 => ⟨S3x8x513, .f32⟩
  | 108 => ⟨S3x8x513, .f32⟩
  | 109 => ⟨S_, .f32⟩
  | 110 => ⟨S8x513, .f32⟩
  | 111 => ⟨S8x513, .f32⟩
  | 112 => ⟨S8x513, .f32⟩
  | 113 => ⟨S8x513, .f32⟩
  | 114 => ⟨S1x8x513, .f32⟩
  | 115 => ⟨S_, .i32⟩
  | 116 => ⟨S_, .i32⟩
  | 117 => ⟨S2047x8x513, .f32⟩
  | 118 => ⟨S_, .i32⟩
  | 119 => ⟨S_, .i32⟩
  | 120 => ⟨S1x8x513, .f32⟩
  | 121 => ⟨S2048x8x513, .f32⟩
  | 122 => ⟨S8, .i32⟩
  | 123 => ⟨S_, .i32⟩
  | 124 => ⟨S8, .i32⟩
  | 125 => ⟨S8, .i32⟩
  | 126 => ⟨S_, .i32⟩
  | 127 => ⟨S8, .i32⟩
  | _ => ⟨S2048x8x256, .f32⟩

abbrev hbmTy0_1 (i : Nat) : BufTy := match i % 128 with
  | 0 => ⟨S8, .i1⟩
  | 1 => ⟨S_, .i32⟩
  | 2 => ⟨S8, .i32⟩
  | 3 => ⟨S8, .i32⟩
  | 4 => ⟨S8, .i32⟩
  | 5 => ⟨S_, .i32⟩
  | 6 => ⟨S8, .i32⟩
  | 7 => ⟨S8, .i1⟩
  | 8 => ⟨S_, .i32⟩
  | 9 => ⟨S8, .i32⟩
  | 10 => ⟨S8, .i32⟩
  | 11 => ⟨S8, .i32⟩
  | 12 => ⟨S8x1, .i32⟩
  | 13 => ⟨S8x1, .i32⟩
  | 14 => ⟨S8x2, .i32⟩
  | 15 => ⟨S8x513, .f32⟩
  | 16 => ⟨S_, .i32⟩
  | 17 => ⟨S8, .i32⟩
  | 18 => ⟨S8, .i32⟩
  | 19 => ⟨S_, .i32⟩
  | 20 => ⟨S8, .i32⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S8, .i32⟩
  | 33 => ⟨S8x1, .i32⟩
  | 34 => ⟨S8x1, .i32⟩
  | 35 => ⟨S8x2, .i32⟩
  | 36 => ⟨S8, .f32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S8x1, .i32⟩
  | 59 => ⟨S8x2, .i32⟩
  | 60 => ⟨S8, .f32⟩
  | 61 => ⟨S1x8, .f32⟩
  | 62 => ⟨S1x8, .f32⟩
  | 63 => ⟨S2x8, .f32⟩
  | 64 => ⟨S_, .f32⟩
  | 65 => ⟨S8, .f32⟩
  | 66 => ⟨S_, .f32⟩
  | 67 => ⟨S8, .f32⟩
  | 68 => ⟨S8, .i1⟩
  | 69 => ⟨S_, .f32⟩
  | 70 => ⟨S_, .f32⟩
  | 71 => ⟨S8, .f32⟩
  | 72 => ⟨S8, .f32⟩
  | 73 => ⟨S1x8, .f32⟩
  | 74 => ⟨S2x8, .f32⟩
  | 75 => ⟨S2x8, .f32⟩
  | 76 => ⟨S2x8, .f32⟩
  | 77 => ⟨S_, .f32⟩
  | 78 => ⟨S8, .f32⟩
  | 79 => ⟨S8, .f32⟩
  | 80 => ⟨S8, .f32⟩
  | 81 => ⟨S8, .f32⟩
  | 82 => ⟨S_, .f32⟩
  | 83 => ⟨S8, .f32⟩
  | 84 => ⟨S8, .i1⟩
  | 85 => ⟨S_, .f32⟩
  | 86 => ⟨S_, .f32⟩
  | 87 => ⟨S8, .f32⟩
  | 88 => ⟨S8, .f32⟩
  | 89 => ⟨S8, .f32⟩
  | 90 => ⟨S8, .f32⟩
  | 91 => ⟨S_, .f32⟩
  | 92 => ⟨S_, .f32⟩
  | 93 => ⟨S_, .f32⟩
  | 94 => ⟨S_, .f32⟩
  | _ => ⟨S2048x8x256, .f32⟩

abbrev hbmTy (i : Nat) : BufTy := match i / 128 with
  | 0 => hbmTy0_0 i
  | 1 => hbmTy0_1 i
  | _ => ⟨S2048x8x256, .f32⟩

abbrev bufTy : (tb : Table) → Fin (tcTables nBuf tb) → BufTy
  | .hbm, ⟨i, _⟩ => hbmTy i
  | _, _ => ⟨S2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_c_6 : Ref sig .tc := ⟨.hbm, 68, rfl⟩
abbrev main_v32_0 : Ref sig .tc := ⟨.hbm, 69, rfl⟩
abbrev main_v32_1 : Ref sig .tc := ⟨.hbm, 70, rfl⟩
abbrev main_v32_2 : Ref sig .tc := ⟨.hbm, 71, rfl⟩
abbrev main_v32_3 : Ref sig .tc := ⟨.hbm, 72, rfl⟩
abbrev main_v32_4 : Ref sig .tc := ⟨.hbm, 73, rfl⟩
abbrev main_while0c_c_35 : Ref sig .tc := ⟨.hbm, 74, rfl⟩
abbrev main_while0c_v108 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_v0 : Ref sig .tc := ⟨.hbm, 78, rfl⟩
abbrev main_while0b_v108 : Ref sig .tc := ⟨.hbm, 79, rfl⟩
abbrev main_while0b_cst_35 : Ref sig .tc := ⟨.hbm, 80, rfl⟩
abbrev main_while0b_v109 : Ref sig .tc := ⟨.hbm, 81, rfl⟩
abbrev main_while0b_v110 : Ref sig .tc := ⟨.hbm, 82, rfl⟩
abbrev main_while0b_v111 : Ref sig .tc := ⟨.hbm, 83, rfl⟩
abbrev main_while0b_cst_36 : Ref sig .tc := ⟨.hbm, 84, rfl⟩
abbrev main_while0b_v112 : Ref sig .tc := ⟨.hbm, 85, rfl⟩
abbrev main_while0b_v113 : Ref sig .tc := ⟨.hbm, 86, rfl⟩
abbrev main_while0b_v114 : Ref sig .tc := ⟨.hbm, 87, rfl⟩
abbrev main_while0b_cst_37 : Ref sig .tc := ⟨.hbm, 88, rfl⟩
abbrev main_while0b_call3_v0 : Ref sig .tc := ⟨.hbm, 89, rfl⟩
abbrev main_while0b_call3_v1 : Ref sig .tc := ⟨.hbm, 90, rfl⟩
abbrev main_while0b_v115 : Ref sig .tc := ⟨.hbm, 91, rfl⟩
abbrev main_while0b_v116 : Ref sig .tc := ⟨.hbm, 92, rfl⟩
abbrev main_while0b_v117 : Ref sig .tc := ⟨.hbm, 93, rfl⟩
abbrev main_while0b_v118 : Ref sig .tc := ⟨.hbm, 94, rfl⟩
abbrev main_while0b_v119 : Ref sig .tc := ⟨.hbm, 95, rfl⟩
abbrev main_while0b_cst_38 : Ref sig .tc := ⟨.hbm, 96, rfl⟩
abbrev main_while0b_v120 : Ref sig .tc := ⟨.hbm, 97, rfl⟩
abbrev main_while0b_cst_39 : Ref sig .tc := ⟨.hbm, 98, rfl⟩
abbrev main_while0b_v121 : Ref sig .tc := ⟨.hbm, 99, rfl⟩
abbrev main_while0b_v122 : Ref sig .tc := ⟨.hbm, 100, rfl⟩
abbrev main_while0b_cst_40 : Ref sig .tc := ⟨.hbm, 101, rfl⟩
abbrev main_while0b_call4_v0 : Ref sig .tc := ⟨.hbm, 102, rfl⟩
abbrev main_while0b_call4_v1 : Ref sig .tc := ⟨.hbm, 103, rfl⟩
abbrev main_while0b_v123 : Ref sig .tc := ⟨.hbm, 104, rfl⟩
abbrev main_while0b_v124 : Ref sig .tc := ⟨.hbm, 105, rfl⟩
abbrev main_while0b_v125 : Ref sig .tc := ⟨.hbm, 106, rfl⟩
abbrev main_while0b_v126 : Ref sig .tc := ⟨.hbm, 107, rfl⟩
abbrev main_while0b_v127 : Ref sig .tc := ⟨.hbm, 108, rfl⟩
abbrev main_while0b_cst_41 : Ref sig .tc := ⟨.hbm, 109, rfl⟩
abbrev main_while0b_v128 : Ref sig .tc := ⟨.hbm, 110, rfl⟩
abbrev main_while0b_v129 : Ref sig .tc := ⟨.hbm, 111, rfl⟩
abbrev main_while0b_v130 : Ref sig .tc := ⟨.hbm, 112, rfl⟩
abbrev main_while0b_v131 : Ref sig .tc := ⟨.hbm, 113, rfl⟩
abbrev main_while0b_call5_v0 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_v132 : Ref sig .tc := ⟨.hbm, 117, rfl⟩
abbrev main_while0b_c_42 : Ref sig .tc := ⟨.hbm, 118, rfl⟩
abbrev main_while0b_v133 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_c_7 : Ref sig .tc := ⟨.hbm, 123, rfl⟩
abbrev main_v36 : Ref sig .tc := ⟨.hbm, 124, rfl⟩
abbrev main_v37 : Ref sig .tc := ⟨.hbm, 125, rfl⟩
abbrev main_c_8 : Ref sig .tc := ⟨.hbm, 126, rfl⟩
abbrev main_v38 : Ref sig .tc := ⟨.hbm, 127, rfl⟩
abbrev main_v39 : Ref sig .tc := ⟨.hbm, 128, rfl⟩
abbrev main_c_9 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_c_10 : Ref sig .tc := ⟨.hbm, 133, rfl⟩
abbrev main_v43 : Ref sig .tc := ⟨.hbm, 134, rfl⟩
abbrev main_v44 : Ref sig .tc := ⟨.hbm, 135, rfl⟩
abbrev main_c_11 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_c_12 : Ref sig .tc := ⟨.hbm, 144, rfl⟩
abbrev main_v52 : Ref sig .tc := ⟨.hbm, 145, rfl⟩
abbrev main_v53 : Ref sig .tc := ⟨.hbm, 146, rfl⟩
abbrev main_c_13 : Ref sig .tc := ⟨.hbm, 147, rfl⟩
abbrev main_v54 : Ref sig .tc := ⟨.hbm, 148, rfl⟩
abbrev main_v55 : Ref sig .tc := ⟨.hbm, 149, rfl⟩
abbrev main_c_14 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_c_15 : Ref sig .tc := ⟨.hbm, 154, rfl⟩
abbrev main_v59 : Ref sig .tc := ⟨.hbm, 155, rfl⟩
abbrev main_v60 : Ref sig .tc := ⟨.hbm, 156, rfl⟩
abbrev main_c_16 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_c_17 : Ref sig .tc := ⟨.hbm, 165, rfl⟩
abbrev main_v68 : Ref sig .tc := ⟨.hbm, 166, rfl⟩
abbrev main_v69 : Ref sig .tc := ⟨.hbm, 167, rfl⟩
abbrev main_c_18 : Ref sig .tc := ⟨.hbm, 168, rfl⟩
abbrev main_v70 : Ref sig .tc := ⟨.hbm, 169, rfl⟩
abbrev main_v71 : Ref sig .tc := ⟨.hbm, 170, rfl⟩
abbrev main_c_19 : Ref sig .tc := ⟨.hbm, 171, rfl⟩
abbrev main_v72 : Ref sig .tc := ⟨.hbm, 172, rfl⟩
abbrev main_v73 : Ref sig .tc := ⟨.hbm, 173, rfl⟩
abbrev main_c_20 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_c_21 : Ref sig .tc := ⟨.hbm, 178, rfl⟩
abbrev main_v77 : Ref sig .tc := ⟨.hbm, 179, rfl⟩
abbrev main_v78 : Ref sig .tc := ⟨.hbm, 180, rfl⟩
abbrev main_c_22 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_cst_23 : Ref sig .tc := ⟨.hbm, 192, rfl⟩
abbrev main_v89 : Ref sig .tc := ⟨.hbm, 193, rfl⟩
abbrev main_cst_24 : Ref sig .tc := ⟨.hbm, 194, rfl⟩
abbrev main_v90 : Ref sig .tc := ⟨.hbm, 195, rfl⟩
abbrev main_v91 : Ref sig .tc := ⟨.hbm, 196, rfl⟩
abbrev main_cst_25 : Ref sig .tc := ⟨.hbm, 197, rfl⟩
abbrev main_call6_v0 : Ref sig .tc := ⟨.hbm, 198, rfl⟩
abbrev main_call6_v1 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_cst_26 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_cst_27 : Ref sig .tc := ⟨.hbm, 210, rfl⟩
abbrev main_v101 : Ref sig .tc := ⟨.hbm, 211, rfl⟩
abbrev main_v102 : Ref sig .tc := ⟨.hbm, 212, rfl⟩
abbrev main_cst_28 : Ref sig .tc := ⟨.hbm, 213, rfl⟩
abbrev main_call7_v0 : Ref sig .tc := ⟨.hbm, 214, rfl⟩
abbrev main_call7_v1 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_cst_29 : Ref sig .tc := ⟨.hbm, 219, rfl⟩
abbrev main_v106 : Ref sig .tc := ⟨.hbm, 220, rfl⟩
abbrev main_cst_30 : Ref sig .tc := ⟨.hbm, 221, rfl⟩
abbrev main_v107 : Ref sig .tc := ⟨.hbm, 222, rfl⟩

abbrev nD : Nat := 1
abbrev τ : Topo := Topo.v7x

variable {F : FTy → Type} [FloatOps F]

abbrev main_while0_count : Scf.Loop 32 := ⟨0#32, 2047#32, 1#32⟩
-- ==== Proof.Paths.lean ====
/- The forward recursion of CTC over one sequence, in the domain of probabilities. Position `j` has a blank state
   before the `j`-th symbol and a symbol state; every weight is divided by the blank's probability of its step, so a
   blank costs `1` and symbol `j` at step `t` costs `e t j`. -/
module

public import Mathlib.Data.ENNReal.Operations
public import Mathlib.Tactic.Ring

@[expose] public section

noncomputable section

namespace Cert.Ctc

open scoped ENNReal

/-- The entry before position `j`, zero before the first. -/
def prev (f : ℕ → ℝ≥0∞) : ℕ → ℝ≥0∞
  | 0 => 0
  | j + 1 => f j

/-- There is nothing before the first place. -/
theorem prev_zero (f : ℕ → ℝ≥0∞) : prev f 0 = 0 := rfl

/-- Before place `j + 1` stands place `j`. -/
theorem prev_succ (f : ℕ → ℝ≥0∞) (j : ℕ) : prev f (j + 1) = f j := rfl

section

variable (e : ℕ → ℕ → ℝ≥0∞) (M : ℕ → Prop) [DecidablePred M]

/-- The weights of the blank states and of the symbol states after step `t`: a path starts at the first blank or the
    first symbol; it stays, moves on by one state, or skips a blank where `M` allows it. -/
def weights : ℕ → (ℕ → ℝ≥0∞) × (ℕ → ℝ≥0∞)
  | 0 => (fun j => if j = 0 then 1 else 0, fun j => if j = 0 then e 0 0 else 0)
  | t + 1 => (fun j => (weights t).1 j + prev (weights t).2 j,
      fun j => ((weights t).2 j + (weights t).1 j + if M j then prev (weights t).2 j else 0) * e (t + 1) j)

/-- The weight of the blank state of position `j` after step `t`. -/
abbrev blankW (t j : ℕ) : ℝ≥0∞ := (weights e M t).1 j

/-- The weight of the symbol state of position `j` after step `t`. -/
abbrev symW (t j : ℕ) : ℝ≥0∞ := (weights e M t).2 j

variable {e M}

/-- One step of a blank state. -/
theorem blankW_succ (t j : ℕ) : blankW e M (t + 1) j = blankW e M t j + prev (symW e M t) j := rfl

/-- One step of a symbol state. -/
theorem symW_succ (t j : ℕ) : symW e M (t + 1) j
    = (symW e M t j + blankW e M t j + if M j then prev (symW e M t) j else 0) * e (t + 1) j := rfl

/-- Entries before a position are finite where the entries are. -/
theorem prev_ne_top {f : ℕ → ℝ≥0∞} (h : ∀ j, f j ≠ ⊤) (j : ℕ) : prev f j ≠ ⊤ := by
  cases j with
  | zero => simp [prev]
  | succ j => exact h j

/-- All weights are finite. -/
theorem weights_ne_top (he : ∀ t j, e t j ≠ ⊤) (t : ℕ) : (∀ j, blankW e M t j ≠ ⊤) ∧ (∀ j, symW e M t j ≠ ⊤) := by
  induction t with
  | zero =>
    refine ⟨fun j => ?_, fun j => ?_⟩
    · show (if j = 0 then (1 : ℝ≥0∞) else 0) ≠ ⊤
      split_ifs <;> simp
    · show (if j = 0 then e 0 0 else 0) ≠ ⊤
      split_ifs <;> simp [he]
  | succ t ih =>
    refine ⟨fun j => ?_, fun j => ?_⟩
    · rw [blankW_succ]; exact ENNReal.add_ne_top.mpr ⟨ih.1 j, prev_ne_top ih.2 j⟩
    · rw [symW_succ]
      refine ENNReal.mul_ne_top (ENNReal.add_ne_top.mpr ⟨ENNReal.add_ne_top.mpr ⟨ih.2 j, ih.1 j⟩, ?_⟩) (he _ _)
      split_ifs
      · exact prev_ne_top ih.2 j
      · simp

/-- Two steps of a blank state at once; `es` and `Ms` are `e` and `M` of the position before. -/
theorem blankW_two {t j : ℕ} {es : ℝ≥0∞} {Ms : Prop} [Decidable Ms] (hes : ∀ i, j = i + 1 → es = e (t + 1) i)
    (hMs : ∀ i, j = i + 1 → (Ms ↔ M i)) :
    blankW e M (t + 2) j = blankW e M t j + prev (symW e M t) j * (1 + es) + prev (blankW e M t) j * es
      + prev (prev (symW e M t)) j * (if Ms then es else 0) := by
  rw [blankW_succ, blankW_succ]
  cases j with
  | zero => simp [prev]
  | succ i =>
    obtain rfl := hes i rfl
    have h := hMs i rfl
    simp only [prev_succ]
    rw [symW_succ]
    by_cases hM : M i
    · rw [if_pos hM, if_pos (h.mpr hM)]; ring
    · rw [if_neg hM, if_neg (fun k => hM (h.mp k))]; ring

/-- Two steps of a symbol state at once. -/
theorem symW_two {t j : ℕ} {es : ℝ≥0∞} {Ms : Prop} [Decidable Ms] (hes : ∀ i, j = i + 1 → es = e (t + 1) i)
    (hMs : ∀ i, j = i + 1 → (Ms ↔ M i)) :
    symW e M (t + 2) j = (symW e M t j * e (t + 1) j + blankW e M t j * (1 + e (t + 1) j)
      + prev (symW e M t) j * (1 + if M j then e (t + 1) j + es else 0)
      + prev (blankW e M t) j * (if M j then es else 0)
      + prev (prev (symW e M t)) j * (if M j ∧ Ms then es else 0)) * e (t + 2) j := by
  rw [symW_succ, blankW_succ]
  cases j with
  | zero => simp only [prev_zero]; rw [symW_succ]; simp only [prev_zero]; split_ifs <;> ring
  | succ i =>
    obtain rfl := hes i rfl
    have h := hMs i rfl
    simp only [prev_succ]
    rw [symW_succ, symW_succ]
    simp only [prev_succ]
    by_cases hM : M i <;> by_cases hM' : M (i + 1) <;> simp only [h, hM, hM', if_true, if_false, and_true, and_false] <;> ring

/-- Two steps of the last blank state at once. -/
theorem blankW_two_last {t j : ℕ} :
    blankW e M (t + 2) (j + 2) = blankW e M t (j + 2) + symW e M t (j + 1) * (1 + e (t + 1) (j + 1))
      + blankW e M t (j + 1) * e (t + 1) (j + 1) + symW e M t j * (if M (j + 1) then e (t + 1) (j + 1) else 0) := by
  refine blankW_two (es := e (t + 1) (j + 1)) (Ms := M (j + 1)) (fun i h => ?_) (fun i h => ?_)
  · obtain rfl : j + 1 = i := by omega
    rfl
  · obtain rfl : j + 1 = i := by omega
    rfl

end

end Cert.Ctc

end
-- ==== Proof.LogSum.lean ====
/- Logarithms of sums of exponentials over the extended reals. `eexp` is the exponential as a
   nonnegative extended real, where sums become products, so a shifted log-sum-exp is the logarithm of the
   plain sum of exponentials, whatever the shift, as long as no term is `⊤`. -/
module

public import Idealize.ShloMosaic.PureOps.Ideal
public import Mathlib.Data.EReal.Operations
public import Mathlib.Analysis.SpecialFunctions.Log.Basic

@[expose] public section

noncomputable section

namespace Cert.Ctc

open Idealize.ShloMosaic

/-- The exponential of an extended real, as a nonnegative extended real. -/
def eexp (x : EReal) : ENNReal := (Ideal.exp x).toENNReal

/-- The exponential of minus infinity is zero. -/
theorem eexp_bot : eexp ⊥ = 0 := by
  show EReal.toENNReal 0 = 0
  simp

/-- The exponential of plus infinity is infinite. -/
theorem eexp_top : eexp ⊤ = ⊤ := by
  show EReal.toENNReal ⊤ = ⊤
  simp

/-- The exponential of a real number. -/
theorem eexp_coe (r : ℝ) : eexp (r : EReal) = ENNReal.ofReal (Real.exp r) := by
  show ((Real.exp r : ℝ) : EReal).toENNReal = _
  simp [EReal.toENNReal]

/-- The exponential of zero is one. -/
theorem eexp_zero : eexp 0 = 1 := by
  rw [← EReal.coe_zero, eexp_coe]; simp

/-- The exponential of the ideal operations is a nonnegative extended real. -/
theorem ideal_exp (x : EReal) : Ideal.exp x = ((eexp x : ENNReal) : EReal) := by
  rw [eexp, EReal.coe_toENNReal]
  induction x using EReal.rec with
  | bot => exact le_refl _
  | top => exact le_top
  | coe r =>
    show (0 : EReal) ≤ ((Real.exp r : ℝ) : EReal)
    exact_mod_cast Real.exp_nonneg r

/-- A sum becomes a product. -/
theorem eexp_add (x y : EReal) : eexp (x + y) = eexp x * eexp y := by
  induction x using EReal.rec with
  | bot => simp [eexp_bot]
  | top =>
    induction y using EReal.rec with
    | bot => simp [eexp_bot]
    | top => simp [eexp_top]
    | coe s =>
      rw [EReal.top_add_coe, eexp_top, eexp_coe, ENNReal.top_mul]
      simp [Real.exp_pos]
  | coe r =>
    induction y using EReal.rec with
    | bot => simp [eexp_bot]
    | top =>
      rw [EReal.coe_add_top, eexp_top, eexp_coe, ENNReal.mul_top]
      simp [Real.exp_pos]
    | coe s =>
      rw [← EReal.coe_add, eexp_coe, eexp_coe, eexp_coe, Real.exp_add, ENNReal.ofReal_mul (Real.exp_nonneg r)]

/-- Only plus infinity has an infinite exponential. -/
theorem eexp_eq_top {x : EReal} : eexp x = ⊤ ↔ x = ⊤ := by
  induction x using EReal.rec with
  | bot => simp [eexp_bot]
  | top => simp [eexp_top]
  | coe r => simp [eexp_coe]

/-- The exponential is injective. -/
theorem eexp_inj {x y : EReal} (h : eexp x = eexp y) : x = y := by
  induction x using EReal.rec with
  | bot =>
    induction y using EReal.rec with
    | bot => rfl
    | top => simp [eexp_bot, eexp_top] at h
    | coe s => simp [eexp_bot, eexp_coe, eq_comm, Real.exp_pos, not_le.mpr (Real.exp_pos s)] at h
  | top => rw [eexp_top] at h; exact (eexp_eq_top.mp h.symm).symm
  | coe r =>
    induction y using EReal.rec with
    | bot => simp [eexp_bot, eexp_coe, not_le.mpr (Real.exp_pos r)] at h
    | top => rw [eexp_top] at h; exact eexp_eq_top.mp h
    | coe s =>
      rw [eexp_coe, eexp_coe, ENNReal.ofReal_eq_ofReal_iff (Real.exp_nonneg r) (Real.exp_nonneg s)] at h
      rw [Real.exp_injective h]

/-- The exponential of a logarithm of a nonnegative value is the value. -/
theorem eexp_log (y : ENNReal) : eexp (Ideal.log (y : EReal)) = y := by
  induction y using ENNReal.recTopCoe with
  | top => exact eexp_top
  | coe r =>
    show eexp (if (r : ℝ) ≤ 0 then ⊥ else ((Real.log r : ℝ) : EReal)) = _
    split_ifs with h
    · rw [eexp_bot]
      have : r = 0 := le_antisymm (by exact_mod_cast h) bot_le
      simp [this]
    · rw [eexp_coe, Real.exp_log (not_le.mp h), ENNReal.ofReal_coe_nnreal]

/-- The exponential of `m` plus a logarithm. -/
theorem exp_add_log (m : EReal) (y : ENNReal) : eexp (m + Ideal.log (y : EReal)) = eexp m * y := by
  rw [eexp_add, eexp_log]

/-- Shifting by an upper bound other than `⊤` and back does nothing to an exponential. -/
theorem exp_shift {m x : EReal} (hm : m ≠ ⊤) (h : x ≤ m) : eexp m * eexp (x - m) = eexp x := by
  induction m using EReal.rec with
  | bot => obtain rfl : x = ⊥ := le_bot_iff.mp h; simp [eexp_bot]
  | top => exact absurd rfl hm
  | coe r => rw [← eexp_add, add_comm, EReal.sub_add_cancel]

/-- Shifting by a real and back does nothing to an exponential. -/
theorem exp_shift_real (r : ℝ) (x : EReal) : eexp (r : EReal) * eexp (x - r) = eexp x := by
  rw [← eexp_add, add_comm, EReal.sub_add_cancel]

/-- The log-sum-exp of two terms shifted by their maximum. -/
theorem exp_lse2 {a b m : EReal} (h : m = max a b) (ha : a ≠ ⊤) (hb : b ≠ ⊤) :
    eexp (m + Ideal.log (Ideal.exp (a - m) + Ideal.exp (b - m))) = eexp a + eexp b := by
  have hm : m ≠ ⊤ := by
    rw [h]; rcases max_choice a b with e | e <;> rw [e] <;> assumption
  have la : a ≤ m := h ▸ le_max_left _ _
  have lb : b ≤ m := h ▸ le_max_right _ _
  rw [ideal_exp, ideal_exp, ← EReal.coe_ennreal_add, exp_add_log, mul_add, exp_shift hm la, exp_shift hm lb]

/-- The log-sum-exp of three terms shifted by their maximum. -/
theorem exp_lse3 {a b c m : EReal} (h : m = max (max a b) c) (ha : a ≠ ⊤) (hb : b ≠ ⊤) (hc : c ≠ ⊤) :
    eexp (m + Ideal.log (Ideal.exp (a - m) + Ideal.exp (b - m) + Ideal.exp (c - m)))
      = eexp a + eexp b + eexp c := by
  have hm : m ≠ ⊤ := by rw [h]; simp [← lt_top_iff_ne_top] at *; exact ⟨⟨ha, hb⟩, hc⟩
  have la : a ≤ m := by rw [h]; simp
  have lb : b ≤ m := by rw [h]; simp
  have lc : c ≤ m := by rw [h]; simp
  rw [ideal_exp, ideal_exp, ideal_exp, ← EReal.coe_ennreal_add, ← EReal.coe_ennreal_add, exp_add_log, mul_add, mul_add,
    exp_shift hm la, exp_shift hm lb, exp_shift hm lc]

/-- The log-sum-exp of four terms shifted by their maximum. -/
theorem exp_lse4 {a b c d m : EReal} (h : m = max (max a b) (max c d)) (ha : a ≠ ⊤) (hb : b ≠ ⊤) (hc : c ≠ ⊤)
    (hd : d ≠ ⊤) :
    eexp (m + Ideal.log (Ideal.exp (a - m) + Ideal.exp (b - m) + Ideal.exp (c - m) + Ideal.exp (d - m)))
      = eexp a + eexp b + eexp c + eexp d := by
  have hm : m ≠ ⊤ := by rw [h]; simp [← lt_top_iff_ne_top] at *; exact ⟨⟨ha, hb⟩, hc, hd⟩
  have la : a ≤ m := by rw [h]; simp
  have lb : b ≤ m := by rw [h]; simp
  have lc : c ≤ m := by rw [h]; simp
  have ld : d ≤ m := by rw [h]; simp
  rw [ideal_exp, ideal_exp, ideal_exp, ideal_exp, ← EReal.coe_ennreal_add, ← EReal.coe_ennreal_add,
    ← EReal.coe_ennreal_add, exp_add_log, mul_add, mul_add, mul_add,
    exp_shift hm la, exp_shift hm lb, exp_shift hm lc, exp_shift hm ld]

/-- The log-sum-exp of five terms shifted by their maximum. -/
theorem exp_lse5 {a b c d e m : EReal} (h : m = max (max (max a b) (max c d)) e) (ha : a ≠ ⊤) (hb : b ≠ ⊤)
    (hc : c ≠ ⊤) (hd : d ≠ ⊤) (he : e ≠ ⊤) :
    eexp (m + Ideal.log (Ideal.exp (a - m) + Ideal.exp (b - m) + Ideal.exp (c - m) + Ideal.exp (d - m)
        + Ideal.exp (e - m)))
      = eexp a + eexp b + eexp c + eexp d + eexp e := by
  have hm : m ≠ ⊤ := by rw [h]; simp [← lt_top_iff_ne_top] at *; exact ⟨⟨⟨ha, hb⟩, hc, hd⟩, he⟩
  have la : a ≤ m := by rw [h]; simp
  have lb : b ≤ m := by rw [h]; simp
  have lc : c ≤ m := by rw [h]; simp
  have ld : d ≤ m := by rw [h]; simp
  have le : e ≤ m := by rw [h]; simp
  rw [ideal_exp, ideal_exp, ideal_exp, ideal_exp, ideal_exp, ← EReal.coe_ennreal_add, ← EReal.coe_ennreal_add,
    ← EReal.coe_ennreal_add, ← EReal.coe_ennreal_add, exp_add_log, mul_add, mul_add, mul_add, mul_add,
    exp_shift hm la, exp_shift hm lb, exp_shift hm lc, exp_shift hm ld, exp_shift hm le]

/-- The log-sum-exp of two terms whose exponentials are known and finite. -/
theorem lse2_of {a b : EReal} {A B : ENNReal} (ha : eexp a = A) (ta : A ≠ ⊤) (hb : eexp b = B) (tb : B ≠ ⊤) :
    eexp (max a b + Ideal.log (Ideal.exp (a - max a b) + Ideal.exp (b - max a b))) = A + B := by
  subst ha hb
  exact exp_lse2 rfl (mt eexp_eq_top.mpr ta) (mt eexp_eq_top.mpr tb)

/-- The log-sum-exp of three terms whose exponentials are known and finite. -/
theorem lse3_of {a b c : EReal} {A B C : ENNReal} (ha : eexp a = A) (ta : A ≠ ⊤) (hb : eexp b = B) (tb : B ≠ ⊤) (hc : eexp c = C) (tc : C ≠ ⊤) :
    eexp (max (max a b) c + Ideal.log (Ideal.exp (a - max (max a b) c) + Ideal.exp (b - max (max a b) c) + Ideal.exp (c - max (max a b) c))) = A + B + C := by
  subst ha hb hc
  exact exp_lse3 rfl (mt eexp_eq_top.mpr ta) (mt eexp_eq_top.mpr tb) (mt eexp_eq_top.mpr tc)

/-- The log-sum-exp of four terms whose exponentials are known and finite. -/
theorem lse4_of {a b c d : EReal} {A B C D : ENNReal} (ha : eexp a = A) (ta : A ≠ ⊤) (hb : eexp b = B) (tb : B ≠ ⊤) (hc : eexp c = C) (tc : C ≠ ⊤) (hd : eexp d = D) (td : D ≠ ⊤) :
    eexp (max (max a b) (max c d) + Ideal.log (Ideal.exp (a - max (max a b) (max c d)) + Ideal.exp (b - max (max a b) (max c d)) + Ideal.exp (c - max (max a b) (max c d)) + Ideal.exp (d - max (max a b) (max c d)))) = A + B + C + D := by
  subst ha hb hc hd
  exact exp_lse4 rfl (mt eexp_eq_top.mpr ta) (mt eexp_eq_top.mpr tb) (mt eexp_eq_top.mpr tc) (mt eexp_eq_top.mpr td)

/-- The log-sum-exp of five terms whose exponentials are known and finite. -/
theorem lse5_of {a b c d e : EReal} {A B C D E : ENNReal} (ha : eexp a = A) (ta : A ≠ ⊤) (hb : eexp b = B) (tb : B ≠ ⊤) (hc : eexp c = C) (tc : C ≠ ⊤) (hd : eexp d = D) (td : D ≠ ⊤) (he : eexp e = E) (te : E ≠ ⊤) :
    eexp (max (max (max a b) (max c d)) e + Ideal.log (Ideal.exp (a - max (max (max a b) (max c d)) e) + Ideal.exp (b - max (max (max a b) (max c d)) e) + Ideal.exp (c - max (max (max a b) (max c d)) e) + Ideal.exp (d - max (max (max a b) (max c d)) e) + Ideal.exp (e - max (max (max a b) (max c d)) e))) = A + B + C + D + E := by
  subst ha hb hc hd he
  exact exp_lse5 rfl (mt eexp_eq_top.mpr ta) (mt eexp_eq_top.mpr tb) (mt eexp_eq_top.mpr tc) (mt eexp_eq_top.mpr td) (mt eexp_eq_top.mpr te)

/-- The shift with a guard: the maximum where it is above `⊥`, zero otherwise. -/
def guarded (m : EReal) : EReal := if ⊥ < m then m else 0

/-- The guarded shift of something that is not `⊤` is a real. -/
theorem guarded_real {m : EReal} (hm : m ≠ ⊤) : ∃ r : ℝ, guarded m = r := by
  induction m using EReal.rec with
  | bot => exact ⟨0, by simp [guarded]⟩
  | top => exact absurd rfl hm
  | coe r => exact ⟨r, by simp [guarded]⟩

/-- The log-sum-exp of two terms with a guarded shift. -/
theorem exp_guarded2 {a b m : EReal} (hm : m ≠ ⊤) :
    eexp (guarded m + Ideal.log (Ideal.exp (a - guarded m) + Ideal.exp (b - guarded m)))
      = eexp a + eexp b := by
  obtain ⟨r, hr⟩ := guarded_real hm
  rw [hr, ideal_exp, ideal_exp, ← EReal.coe_ennreal_add, exp_add_log, mul_add, exp_shift_real, exp_shift_real]

/-- The log-sum-exp of three terms with a guarded shift. -/
theorem exp_guarded3 {a b c m : EReal} (hm : m ≠ ⊤) :
    eexp (guarded m + Ideal.log (Ideal.exp (a - guarded m) + Ideal.exp (b - guarded m) + Ideal.exp (c - guarded m)))
      = eexp a + eexp b + eexp c := by
  obtain ⟨r, hr⟩ := guarded_real hm
  rw [hr, ideal_exp, ideal_exp, ideal_exp, ← EReal.coe_ennreal_add, ← EReal.coe_ennreal_add, exp_add_log, mul_add, mul_add,
    exp_shift_real, exp_shift_real, exp_shift_real]

/-- The exponential of a finite sum is the product of the exponentials. -/
theorem exp_sum {ι : Type} (s : Finset ι) (f : ι → EReal) : eexp (∑ i ∈ s, f i) = ∏ i ∈ s, eexp (f i) := by
  classical
  induction s using Finset.induction_on with
  | empty => simp [eexp_zero]
  | insert a s ha ih => rw [Finset.sum_insert ha, Finset.prod_insert ha, eexp_add, ih]

end Cert.Ctc

end
-- ==== Proof.Spec.lean ====
/- The problem's data as plain functions, and its answer: log-probabilities, symbols and the index of the last symbol of
   every sequence; the weight of all alignments of a sequence; the mean loss. -/
module

public import proofs.«01_k».proof.Proof.Paths
public import proofs.«01_k».proof.Proof.LogSum
public import Idealize.ShloMosaic.Lib.Pointwise

@[expose] public section

noncomputable section

namespace Cert.Ctc

open Idealize.ShloMosaic

/-- The mean over eight sequences of the loss of a weight, per symbol; a loss past the bound counts as zero. -/
def meanLoss (W : Fin 8 → ENNReal) (n : Fin 8 → BitVec 32) : EReal :=
  Ideal.div (∑ b : Fin 8, Ideal.div
      (if Ideal.ofBits FTy.f32 1872858888#32 < 0 - Ideal.log (W b : EReal) then 0 else 0 - Ideal.log (W b : EReal))
      (FloatOps.sitofp (F := Ideal) FTy.f32 (n b)))
    (Ideal.ofBits FTy.f32 1090519040#32)

/-- The inputs: log-probabilities by step, sequence and class; symbols by sequence and position; the position of the last
    symbol of each sequence. -/
structure Data where
  lp : Fin 2048 → Fin 8 → Fin 256 → ℝ
  tg : Fin 8 → Fin 256 → Fin 256
  last : Fin 8 → Fin 256

namespace Data

variable (D : Data)

/-- The probability of symbol `j` at step `t`, divided by the blank's. -/
def e (b : Fin 8) (t j : ℕ) : ENNReal :=
  if h : t < 2048 ∧ j < 256 then
    eexp ((D.lp ⟨t, h.1⟩ b (D.tg b ⟨j, h.2⟩) - D.lp ⟨t, h.1⟩ b 0 : ℝ) : EReal) else 0

/-- Symbol `j` may follow symbol `j - 1` without a blank between. -/
def M (b : Fin 8) (j : ℕ) : Prop :=
  ∃ h : j < 256, 1 ≤ j ∧ D.tg b ⟨j, h⟩ ≠ 0 ∧ D.tg b ⟨j, h⟩ ≠ D.tg b ⟨j - 1, Nat.lt_of_le_of_lt (Nat.sub_le j 1) h⟩

instance (b : Fin 8) : DecidablePred (D.M b) := Classical.decPred _

/-- The weight of all paths that stand at an end of the sequence at step `T`. -/
def totalAt (T : ℕ) (b : Fin 8) : ENNReal :=
  (blankW (D.e b) (D.M b) T ((D.last b : ℕ) + 1) + symW (D.e b) (D.M b) T (D.last b : ℕ))
    * ∏ t : Fin 2048, eexp (D.lp t b 0 : EReal)

/-- The answer: the mean loss of the weights of all alignments. -/
def loss : EReal := meanLoss (D.totalAt 2047) fun b => BitVec.ofNat 32 ((D.last b : ℕ) + 1)

/-- The relative probability of a symbol within the range. -/
theorem e_eq (b : Fin 8) (t : Fin 2048) (j : Fin 256) :
    D.e b t j = eexp ((D.lp t b (D.tg b j) - D.lp t b 0 : ℝ) : EReal) := by
  unfold e
  rw [dif_pos ⟨t.isLt, j.isLt⟩]

/-- The exponential of a real number is finite. -/
theorem eexp_real_ne_top (x : ℝ) : eexp (x : EReal) ≠ ⊤ := mt eexp_eq_top.mp (EReal.coe_ne_top x)

/-- Relative probabilities are finite. -/
theorem e_ne_top (b : Fin 8) (t j : ℕ) : D.e b t j ≠ ⊤ := by
  unfold e
  split_ifs
  · exact eexp_real_ne_top _
  · simp

/-- When a symbol may follow the one before it directly. -/
theorem M_fin (b : Fin 8) (j : Fin 256) : D.M b j ↔ 1 ≤ (j : ℕ) ∧ D.tg b j ≠ 0
    ∧ D.tg b j ≠ D.tg b ⟨j - 1, Nat.lt_of_le_of_lt (Nat.sub_le j 1) j.isLt⟩ :=
  ⟨fun ⟨_, h⟩ => h, fun h => ⟨j.isLt, h⟩⟩

end Data

/-- The two arrays of a program that hold the data. -/
structure Reads (D : Data) (lp : (⟨3, ![2048, 8, 256]⟩ : Shape).Idx → EReal) (tg : (⟨2, ![8, 256]⟩ : Shape).Idx → BitVec 32)
    (tl : (⟨1, ![8]⟩ : Shape).Idx → BitVec 32) : Prop where
  lp : ∀ t b k, lp (ix3 t b k) = (D.lp t b k : EReal)
  tg : ∀ b j, tg (ix2 b j) = BitVec.ofNat 32 (D.tg b j)
  tl : ∀ b, tl (ix1 b) = BitVec.ofNat 32 (D.last b + 1)

end Cert.Ctc

end
-- ==== Proof.Bits.lean ====
/- One-bit words read as propositions. -/
module

public import Idealize.ShloMosaic.Lib.Pointwise

@[expose] public section

noncomputable section

namespace Cert.Ctc

open Idealize.ShloMosaic

/-- A conjunction of bits is one where both are. -/
theorem bit_andi (x y : BitVec 1) : IntOp.andi x y = 1#1 ↔ x = 1#1 ∧ y = 1#1 := by
  revert x y; decide

/-- The comparison `≠` of words, as a proposition. -/
theorem bit_ne {w : ℕ} (x y : BitVec w) : IntOp.cmpi CmpIPredicate.ne x y = 1#1 ↔ x ≠ y := by
  by_cases h : x = y
  · subst h; simp [IntOp.cmpi]
  · have : IntOp.cmpi CmpIPredicate.ne x y = 1#1 := by
      show BitVec.ofBool (x != y) = 1#1
      rw [bne_iff_ne.mpr h]; rfl
    simp [this, h]

/-- The comparison `=` of words, as a proposition. -/
theorem bit_eq {w : ℕ} (x y : BitVec w) : IntOp.cmpi CmpIPredicate.eq x y = 1#1 ↔ x = y := by
  by_cases h : x = y
  · subst h; simp [IntOp.cmpi]
  · have : IntOp.cmpi CmpIPredicate.eq x y = 0#1 := by
      show BitVec.ofBool (x == y) = 0#1
      rw [beq_false_of_ne h]; rfl
    simp [this, h]

/-- A small word's signed value is the number it stands for. -/
theorem toInt_small (a : ℕ) (ha : a < 2 ^ 31) : (BitVec.ofNat 32 a).toInt = a := by
  have h : (BitVec.ofNat 32 a).toNat = a := by rw [BitVec.toNat_ofNat, Nat.mod_eq_of_lt (by omega)]
  rw [BitVec.toInt_eq_toNat_of_lt (by omega), h]

/-- Small words compare as the numbers they stand for. -/
theorem bit_sge (a b : ℕ) (ha : a < 2 ^ 31) (hb : b < 2 ^ 31) :
    IntOp.cmpi CmpIPredicate.sge (BitVec.ofNat 32 a) (BitVec.ofNat 32 b) = 1#1 ↔ b ≤ a := by
  show BitVec.ofBool ((BitVec.ofNat 32 b).sle (BitVec.ofNat 32 a)) = 1#1 ↔ b ≤ a
  have h1 : (BitVec.ofNat 32 a).toInt = a := toInt_small _ (by omega)
  have h2 : (BitVec.ofNat 32 b).toInt = b := toInt_small _ (by omega)
  rw [BitVec.sle_eq_decide, h1, h2]
  by_cases h : b ≤ a <;> simp [h]

/-- The same for the strict comparison. -/
theorem bit_slt (a b : ℕ) (ha : a < 2 ^ 31) (hb : b < 2 ^ 31) :
    IntOp.cmpi CmpIPredicate.slt (BitVec.ofNat 32 a) (BitVec.ofNat 32 b) = 1#1 ↔ a < b := by
  show BitVec.ofBool ((BitVec.ofNat 32 a).slt (BitVec.ofNat 32 b)) = 1#1 ↔ a < b
  have h1 : (BitVec.ofNat 32 a).toInt = a := toInt_small _ (by omega)
  have h2 : (BitVec.ofNat 32 b).toInt = b := toInt_small _ (by omega)
  rw [BitVec.slt_eq_decide, h1, h2]
  by_cases h : a < b <;> simp [h]

/-- A bit turned into a number is not zero exactly where the bit is one. -/
theorem bit_float (x : BitVec 1) : (FloatOps.uitofp (F := Ideal) FTy.f32 x : EReal) ≠ 0 ↔ x = 1#1 := by
  have : ∀ y : BitVec 1, y = 0#1 ∨ y = 1#1 := by decide
  rcases this x with rfl | rfl
  · simp [FloatOps.uitofp]
  · simp [FloatOps.uitofp]

/-- A selection by a bit is a case distinction. -/
theorem bit_select {α : Type} (p : BitVec 1) (x y : α) : Scalar.select p x y = if p = 1#1 then x else y := by
  have : ∀ y : BitVec 1, y = 0#1 ∨ y = 1#1 := by decide
  rcases this p with rfl | rfl <;> rfl

/-- The pattern of minus infinity. -/
theorem bits_bot : (Ideal.ofBits FTy.f32 0xFF800000#32 : EReal) = ⊥ := by
  simp [Ideal.ofBits, Ideal.ieee]

/-- The pattern of plus infinity. -/
theorem bits_top : (Ideal.ofBits FTy.f32 0x7F800000#32 : EReal) = ⊤ := by
  simp [Ideal.ofBits, Ideal.ieee]

end Cert.Ctc

end
-- ==== Proof.Given.lean ====
/- What the precondition says of the arguments. -/
module

public import proofs.«01_k».proof.Pre_drawn
public import proofs.«01_k».proof.Proof.Spec
public import proofs.«01_k».proof.Proof.Bits
public import Idealize.ShloMosaic.Lib.ReduceAll
public import Idealize.ShloMosaic.Lib.Claim

@[expose] public section

set_option maxRecDepth 16384

noncomputable section

namespace Cert.Ctc

open Idealize.ShloMosaic

/-- The side conditions of the precondition's operations. -/
theorem drawn_facts : Cert.Pre_drawn.Facts where
  bcast_S_S2048x8x256 := by decide
  reducesTo_S2048x8x256_S_d0_1_2 := by decide
  h_S_ := by decide
  bcast_S_S8x256 := by decide
  reducesTo_S8x256_S_d0_1 := by decide
  bcast_S_S8 := by decide
  reducesTo_S8_S_d0 := by decide

/-- A word between two small bounds, read as a number. -/
theorem word_range (x : BitVec 32) (h1 : IntOp.cmpi CmpIPredicate.sge x 0#32 = 1#1) (h2 : IntOp.cmpi CmpIPredicate.slt x 256#32 = 1#1) :
    x.toNat < 256 := by
  change BitVec.ofBool ((0#32).sle x) = 1#1 at h1
  change BitVec.ofBool (x.slt 256#32) = 1#1 at h2
  rw [BitVec.sle_eq_decide] at h1
  rw [BitVec.slt_eq_decide] at h2
  have e0 : (0#32 : BitVec 32).toInt = 0 := rfl
  have e1 : (256#32 : BitVec 32).toInt = 256 := rfl
  have k1 : (0 : ℤ) ≤ x.toInt := by
    by_contra h
    rw [e0, decide_eq_false h] at h1
    exact absurd h1 (by decide)
  have k2 : x.toInt < 256 := by
    by_contra h
    rw [e1, decide_eq_false h] at h2
    exact absurd h2 (by decide)
  rw [BitVec.toInt_eq_toNat_cond] at k1 k2
  split_ifs at k1 k2 <;> omega

/-- The same between one and 256. -/
theorem word_range' (x : BitVec 32) (h1 : IntOp.cmpi CmpIPredicate.sge x 1#32 = 1#1) (h2 : IntOp.cmpi CmpIPredicate.sle x 256#32 = 1#1) :
    1 ≤ x.toNat ∧ x.toNat ≤ 256 := by
  change BitVec.ofBool ((1#32).sle x) = 1#1 at h1
  change BitVec.ofBool (x.sle 256#32) = 1#1 at h2
  rw [BitVec.sle_eq_decide] at h1 h2
  have e0 : (1#32 : BitVec 32).toInt = 1 := rfl
  have e1 : (256#32 : BitVec 32).toInt = 256 := rfl
  have k1 : (1 : ℤ) ≤ x.toInt := by
    by_contra h
    rw [e0, decide_eq_false h] at h1
    exact absurd h1 (by decide)
  have k2 : x.toInt ≤ 256 := by
    by_contra h
    rw [e1, decide_eq_false h] at h2
    exact absurd h2 (by decide)
  rw [BitVec.toInt_eq_toNat_cond] at k1 k2
  split_ifs at k1 k2 <;> omega

/-- What is above minus infinity is not minus infinity. -/
theorem above_bot (x : EReal) (h : Ideal.cmp CmpFPredicate.ogt x (Ideal.ofBits FTy.f32 0xFF800000#32) = 1#1) : x ≠ ⊥ := by
  rintro rfl
  change BitVec.ofBool (decide (Ideal.ofBits FTy.f32 0xFF800000#32 < (⊥ : EReal))) = 1#1 at h
  rw [decide_eq_false not_lt_bot] at h
  exact absurd h (by decide)

/-- What is below plus infinity is not plus infinity. -/
theorem below_top (x : EReal) (h : Ideal.cmp CmpFPredicate.olt x (Ideal.ofBits FTy.f32 0x7F800000#32) = 1#1) : x ≠ ⊤ := by
  rintro rfl
  change BitVec.ofBool (decide ((⊤ : EReal) < Ideal.ofBits FTy.f32 0x7F800000#32)) = 1#1 at h
  rw [decide_eq_false not_top_lt] at h
  exact absurd h (by decide)

/-- The result of the precondition has one index. -/
instance : Subsingleton Cert.Pre_drawn.S_.Idx := ⟨fun a b => funext fun i => i.elim0⟩

/-- What the precondition says, element by element. -/
theorem drawn_all [Cert.Pre_drawn.Facts] (lp : FVec Ideal Cert.Pre_drawn.S2048x8x256 .f32) (tg : IVec Cert.Pre_drawn.S8x256 32)
    (il tl : IVec Cert.Pre_drawn.S8 32) (h : Cert.Pre_drawn.fn lp tg il tl = fun _ => 1#1) :
    (∀ i, lp i ≠ (⊥ : EReal) ∧ lp i ≠ (⊤ : EReal)) ∧ (∀ i, (tg i).toNat < 256) ∧ (∀ i, il i = 2048#32)
      ∧ ∀ i, 1 ≤ (tl i).toNat ∧ (tl i).toNat ≤ 256 := by
  have h0 := congrFun h (Shape.Idx.first Cert.Pre_drawn.Facts.h_S_)
  unfold Cert.Pre_drawn.fn Cert.Pre_drawn.fn_part1 at h0
  obtain ⟨h1, htl⟩ := (bit_andi _ _).mp h0
  obtain ⟨h2, hil⟩ := (bit_andi _ _).mp h1
  obtain ⟨hlp, htg⟩ := (bit_andi _ _).mp h2
  refine ⟨fun i => ?_, fun i => ?_, fun i => ?_, fun i => ?_⟩
  · obtain ⟨a, b⟩ := (bit_andi _ _).mp (Host.reduce_andi_all _ _ _ _ _ hlp i)
    exact ⟨above_bot _ a, below_top _ b⟩
  · obtain ⟨a, b⟩ := (bit_andi _ _).mp (Host.reduce_andi_all _ _ _ _ _ htg i)
    exact word_range _ a b
  · exact (bit_eq _ _).mp (Host.reduce_andi_all _ _ _ _ _ hil i)
  · obtain ⟨a, b⟩ := (bit_andi _ _).mp (Host.reduce_andi_all _ _ _ _ _ htl i)
    exact word_range' _ a b

/-- The data the arguments hold. -/
def dataOf (lp : Cert.Pre_drawn.S2048x8x256.Idx → EReal) (tg : Cert.Pre_drawn.S8x256.Idx → BitVec 32) (tl : Cert.Pre_drawn.S8.Idx → BitVec 32) : Data where
  lp t b k := (lp (ix3 t b k)).toReal
  tg b j := Fin.ofNat 256 (tg (ix2 b j)).toNat
  last b := Fin.ofNat 256 ((tl (ix1 b)).toNat - 1)

/-- The arguments hold them. -/
theorem drawn_reads [Cert.Pre_drawn.Facts] (lp : FVec Ideal Cert.Pre_drawn.S2048x8x256 .f32) (tg : IVec Cert.Pre_drawn.S8x256 32)
    (il tl : IVec Cert.Pre_drawn.S8 32) (h : Cert.Pre_drawn.fn lp tg il tl = fun _ => 1#1) : Reads (dataOf lp tg tl) lp tg tl := by
  obtain ⟨h1, h2, -, h4⟩ := drawn_all lp tg il tl h
  refine ⟨fun t b k => ?_, fun b j => ?_, fun b => ?_⟩
  · exact (EReal.coe_toReal (h1 _).2 (h1 _).1).symm
  · have := h2 (ix2 b j)
    show _ = BitVec.ofNat 32 ((tg (ix2 b j)).toNat % 256)
    rw [Nat.mod_eq_of_lt this, BitVec.ofNat_toNat, BitVec.setWidth_eq]
  · have := h4 (ix1 b)
    show _ = BitVec.ofNat 32 (((tl (ix1 b)).toNat - 1) % 256 + 1)
    rw [Nat.mod_eq_of_lt (by omega), Nat.sub_add_cancel this.1, BitVec.ofNat_toNat, BitVec.setWidth_eq]

end Cert.Ctc

end
-- ==== Proof.Body.lean ====
/- What one run of the kernel's body leaves in its output block, as a composition of its payloads: the three tables it
   stores first (one piece per sequence), the state its loop ends with, and the loss computed from them. -/
module

public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.Ctc

open Idealize.ShloMosaic Idealize.ShloMosaic.TcCoe Idealize.ShloMosaic.Tactic
open Idealize.SL Idealize.SL.RA Idealize.SL.BI
open Cert.KernelIdeal Cert.KernelIdeal.Gen

/-- The zero offsets, as a constant function. -/
theorem hz : (![0, 0] : Fin 2 → Nat) = fun _ => 0 := by funext i; fin_cases i <;> rfl

section

variable {F : FTy → Type} [FloatOps F] [Named F]

/-- The class indices down the rows of a square block. -/
abbrev classes : IVec S256x256 32 := iota Kind.tc S256x256 32 [0] iota_S256x256_d0_w32

/-- The log-probabilities of one sequence. -/
abbrev seqOf (x0 : Vec F S2048x8x256 .f32) (off : Fin 3 → Nat) (h : ∀ a, off a + S2048x1x256.size a ≤ S2048x8x256.size a) :
    Vec F S2048x1x256 .f32 :=
  View.ld x0 (Rect.unit off ![2048, 1, 256] h)

/-- What the body stores in its first table, sequence by sequence (last first). -/
def piecesD (x0 : Vec F S2048x8x256 .f32) (x1 : Vec F S8x256 .i32) : List (View.Piece (Elt F) S2048x8x256 .f32) :=
  [⟨Rect.unit ![0, 7, 0] ![2048, 1, 256] inb_S2048x8x256_S2048x1x256_0_7_0,
      k0_pay61 x1 classes k0_pay24 (seqOf x0 ![0, 7, 0] inb_S2048x8x256_S2048x1x256_0_7_0)⟩,
    ⟨Rect.unit ![0, 6, 0] ![2048, 1, 256] inb_S2048x8x256_S2048x1x256_0_6_0,
      k0_pay57 x1 classes k0_pay24 (seqOf x0 ![0, 6, 0] inb_S2048x8x256_S2048x1x256_0_6_0)⟩,
    ⟨Rect.unit ![0, 5, 0] ![2048, 1, 256] inb_S2048x8x256_S2048x1x256_0_5_0,
      k0_pay52 (k0_pay49 x1 classes k0_pay24) (seqOf x0 ![0, 5, 0] inb_S2048x8x256_S2048x1x256_0_5_0)⟩,
    ⟨Rect.unit ![0, 4, 0] ![2048, 1, 256] inb_S2048x8x256_S2048x1x256_0_4_0,
      k0_pay46 x1 classes k0_pay24 (seqOf x0 ![0, 4, 0] inb_S2048x8x256_S2048x1x256_0_4_0)⟩,
    ⟨Rect.unit ![0, 3, 0] ![2048, 1, 256] inb_S2048x8x256_S2048x1x256_0_3_0,
      k0_pay42 x1 classes k0_pay24 (seqOf x0 ![0, 3, 0] inb_S2048x8x256_S2048x1x256_0_3_0)⟩,
    ⟨Rect.unit ![0, 2, 0] ![2048, 1, 256] inb_S2048x8x256_S2048x1x256_0_2_0,
      k0_pay38 (k0_pay37 x1 classes k0_pay24 (seqOf x0 ![0, 2, 0] inb_S2048x8x256_S2048x1x256_0_2_0))⟩,
    ⟨Rect.unit ![0, 1, 0] ![2048, 1, 256] inb_S2048x8x256_S2048x1x256_0_1_0,
      k0_pay32 classes k0_pay24 (k0_pay30 (F := F) x1) (seqOf x0 ![0, 1, 0] inb_S2048x8x256_S2048x1x256_0_1_0)⟩,
    ⟨Rect.unit ![0, 0, 0] ![2048, 1, 256] inb_S2048x8x256_S2048x1x256_0_0_0,
      k0_pay27 x1 (seqOf x0 ![0, 0, 0] inb_S2048x8x256_S2048x1x256_0_0_0)⟩]

/-- What the body stores in its second table, sequence by sequence (last first). -/
def piecesS (x0 : Vec F S2048x8x256 .f32) (x2 : Vec F S8x256 .i32) : List (View.Piece (Elt F) S2048x8x256 .f32) :=
  [⟨Rect.unit ![0, 7, 0] ![2048, 1, 256] inb_S2048x8x256_S2048x1x256_0_7_0,
      k0_pay62 (k0_pay23 (F := F) x2) classes k0_pay24 (seqOf x0 ![0, 7, 0] inb_S2048x8x256_S2048x1x256_0_7_0)⟩,
    ⟨Rect.unit ![0, 6, 0] ![2048, 1, 256] inb_S2048x8x256_S2048x1x256_0_6_0,
      k0_pay58 (k0_pay55 (k0_pay23 (F := F) x2) classes k0_pay24)
        (k0_pay56 (seqOf x0 ![0, 6, 0] inb_S2048x8x256_S2048x1x256_0_6_0)) (constant S2048x256 FTy.f32 0#32)⟩,
    ⟨Rect.unit ![0, 5, 0] ![2048, 1, 256] inb_S2048x8x256_S2048x1x256_0_5_0,
      k0_pay53 k0_pay24 (k0_pay50 (k0_pay23 (F := F) x2) classes) (seqOf x0 ![0, 5, 0] inb_S2048x8x256_S2048x1x256_0_5_0)⟩,
    ⟨Rect.unit ![0, 4, 0] ![2048, 1, 256] inb_S2048x8x256_S2048x1x256_0_4_0,
      k0_pay47 (k0_pay23 (F := F) x2) classes k0_pay24 (seqOf x0 ![0, 4, 0] inb_S2048x8x256_S2048x1x256_0_4_0)⟩,
    ⟨Rect.unit ![0, 3, 0] ![2048, 1, 256] inb_S2048x8x256_S2048x1x256_0_3_0,
      k0_pay43 (k0_pay23 (F := F) x2) classes k0_pay24 (seqOf x0 ![0, 3, 0] inb_S2048x8x256_S2048x1x256_0_3_0)⟩,
    ⟨Rect.unit ![0, 2, 0] ![2048, 1, 256] inb_S2048x8x256_S2048x1x256_0_2_0,
      k0_pay39 (k0_pay35 (k0_pay23 (F := F) x2) classes k0_pay24)
        (k0_pay36 (seqOf x0 ![0, 2, 0] inb_S2048x8x256_S2048x1x256_0_2_0))⟩,
    ⟨Rect.unit ![0, 1, 0] ![2048, 1, 256] inb_S2048x8x256_S2048x1x256_0_1_0,
      k0_pay33 (k0_pay23 (F := F) x2) classes k0_pay24 (seqOf x0 ![0, 1, 0] inb_S2048x8x256_S2048x1x256_0_1_0)⟩,
    ⟨Rect.unit ![0, 0, 0] ![2048, 1, 256] inb_S2048x8x256_S2048x1x256_0_0_0,
      k0_pay28 x2 (seqOf x0 ![0, 0, 0] inb_S2048x8x256_S2048x1x256_0_0_0)⟩]

/-- What the body stores in its table of column sums, sequence by sequence (last first). -/
def piecesR (x0 : Vec F S2048x8x256 .f32) : List (View.Piece (Elt F) S8x256 .f32) :=
  [⟨Rect.unit ![7, 0] ![1, 256] inb_S8x256_S1x256_7_0,
      k0_pay63 k0_pay25 (seqOf x0 ![0, 7, 0] inb_S2048x8x256_S2048x1x256_0_7_0)⟩,
    ⟨Rect.unit ![6, 0] ![1, 256] inb_S8x256_S1x256_6_0,
      k0_pay59 k0_pay25 (k0_pay56 (seqOf x0 ![0, 6, 0] inb_S2048x8x256_S2048x1x256_0_6_0))⟩,
    ⟨Rect.unit ![5, 0] ![1, 256] inb_S8x256_S1x256_5_0,
      k0_pay54 k0_pay25 (seqOf x0 ![0, 5, 0] inb_S2048x8x256_S2048x1x256_0_5_0)⟩,
    ⟨Rect.unit ![4, 0] ![1, 256] inb_S8x256_S1x256_4_0,
      k0_pay48 k0_pay25 (seqOf x0 ![0, 4, 0] inb_S2048x8x256_S2048x1x256_0_4_0)⟩,
    ⟨Rect.unit ![3, 0] ![1, 256] inb_S8x256_S1x256_3_0,
      k0_pay44 k0_pay25 (k0_pay41 (seqOf x0 ![0, 3, 0] inb_S2048x8x256_S2048x1x256_0_3_0)) (constant S1x256 FTy.f32 0#32)⟩,
    ⟨Rect.unit ![2, 0] ![1, 256] inb_S8x256_S1x256_2_0,
      k0_pay40 k0_pay25 (k0_pay36 (seqOf x0 ![0, 2, 0] inb_S2048x8x256_S2048x1x256_0_2_0))⟩,
    ⟨Rect.unit ![1, 0] ![1, 256] inb_S8x256_S1x256_1_0,
      k0_pay34 k0_pay25 (seqOf x0 ![0, 1, 0] inb_S2048x8x256_S2048x1x256_0_1_0)⟩,
    ⟨Rect.unit ![0, 0] ![1, 256] inb_S8x256_S1x256_0_0,
      k0_pay29 (seqOf x0 ![0, 0, 0] inb_S2048x8x256_S2048x1x256_0_0_0)⟩]

/-- The loss from the state the loop ends with, the last step's row of the first table and the column sums. -/
def lossOf (x3 : Vec F S8x256 .f32) (x5 : Vec F S8x1 .i32)
    (st : FVec F S8x256 .f32 × FVec F S8x256 .f32 × FVec F S8x1 .f32) (d : Vec F S1x8x256 .f32) (rs : Vec F S8x1 .f32) :
    FVec F S1x1 .f32 :=
  k0_pay1 (k0_pay66 (F := F) x5)
    (k0_pay77 (iota Kind.tc S8x256 32 [1] iota_S8x256_d1_w32) (k0_pay66 (F := F) x5) st.1 st.2.1 st.2.2 (k0_pay74 st.2.1))
    (k0_pay78 (iota Kind.tc S8x256 32 [1] iota_S8x256_d1_w32) (k0_pay66 (F := F) x5) st.1 st.2.1 (k0_pay73 d)
      (k0_pay75 x3 st.2.1) (k0_pay76 st.1 st.2.1))
    rs

end

set_option maxHeartbeats 1000000 in
/-- The output block after the body: the loss of the loop's last state over the tables stored before it. -/
theorem out_eq (c : Dev nD) (arg0 : Memref sig .tc .vmem S2048x8x256 .f32) (harg0 : arg0.IsWhole) (arg1 : Memref sig .tc .vmem S8x256 .i32) (harg1 : arg1.IsWhole) (arg2 : Memref sig .tc .vmem S8x256 .i32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x1 .i32) (harg5 : arg5.IsWhole) (arg6 : Memref sig .tc .vmem S1x1 .f32) (harg6 : arg6.IsWhole) (arg7 : Memref sig .tc .vmem S2048x8x256 .f32) (harg7 : arg7.IsWhole) (arg8 : Memref sig .tc .vmem S2048x8x256 .f32) (harg8 : arg8.IsWhole) (arg9 : Memref sig .tc .vmem S8x256 .f32) (harg9 : arg9.IsWhole)
    (x0 : Vec Ideal S2048x8x256 .f32) (x1 : Vec Ideal S8x256 .i32) (x2 : Vec Ideal S8x256 .i32) (x3 : Vec Ideal S8x256 .f32) (x4 : Vec Ideal S8x256 .f32) (x5 : Vec Ideal S8x1 .i32) :
    out0_A_6 (F := Ideal) c arg0 harg0 arg1 harg1 arg2 harg2 arg3 harg3 arg4 harg4 arg5 harg5 arg6 harg6 arg7 harg7 arg8 harg8 arg9 harg9 x0 x1 x2 x3 x4 x5
      = lossOf x3 x5
          (st_k0_t1 (F := Ideal) Variants.none c none arg0 harg0 arg1 harg1 arg2 harg2 arg3 harg3 arg4 harg4 arg5 harg5 arg6 harg6 arg7 harg7 arg8 harg8 arg9 harg9 x3 x4
            (arg7.view.writes (Elt Ideal) arg7.view.junk (piecesD x0 x1))
            (arg8.view.writes (Elt Ideal) arg8.view.junk (piecesS x0 x2))
            (k0_pay70, k0_pay69 (arg7.view.readCov (piecesD x0 x1) (Rect.unit (s := S2048x8x256) ![0, 0, 0] S1x8x256.size inb_S2048x8x256_S1x8x256_0_0_0).toLoadRect), k0_pay71)
            (Scf.trips (0#32) (Scalar.addi 0#32 1023#32) 1#32))
          (arg7.view.readCov (piecesD x0 x1) (Rect.unit (s := S2048x8x256) ![2047, 0, 0] S1x8x256.size inb_S2048x8x256_S1x8x256_2047_0_0).toLoadRect)
          (arg9.view.readCov (piecesR x0) (Rect.unit (s := S8x256) ![0, 0] S8x1.size inb_S8x256_S8x1_0_0).toLoadRect) := by
  unfold out0_A_6
  rw [View.read_writes_eq_canon _ _ _ (cover0_A_6 c arg0 harg0 arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg0.read_unread, harg1.read_unread, harg2.read_unread, harg3.read_unread,
    harg4.read_unread, harg5.read_unread]
  have h1 : View.ld x1 (Rect.unit ![0, 0] ![8, 256] inb_S8x256_S8x256_0_0) = x1 := View.ld_unit_zero hz _ _
  have h2 : View.ld x2 (Rect.unit ![0, 0] ![8, 256] inb_S8x256_S8x256_0_0) = x2 := View.ld_unit_zero hz _ _
  have h3 : View.ld x3 (Rect.unit ![0, 0] ![8, 256] inb_S8x256_S8x256_0_0) = x3 := View.ld_unit_zero hz _ _
  have h4 : View.ld x4 (Rect.unit ![0, 0] ![8, 256] inb_S8x256_S8x256_0_0) = x4 := View.ld_unit_zero hz _ _
  have h5 : View.ld x5 (Rect.unit ![0, 0] ![8, 1] inb_S8x1_S8x1_0_0) = x5 := View.ld_unit_zero hz _ _
  rw [View.canon_unit_zero hz]
  simp only [h1, h2, h3, h4, h5]
  unfold lossOf piecesD piecesS piecesR
  rfl

end Cert.Ctc

end
-- ==== Proof.Tables.lean ====
/- The kernel's three tables. Row `t`, sequence `b`, position `j` of the first two holds the log-probability of a symbol
   less the blank's, as a product of the sequence with a difference of two indicator matrices; the third holds the sums
   of each class's log-probabilities over time. -/
module

public import proofs.«01_k».proof.Proof.Body
public import Idealize.ShloMosaic.Lib.Pointwise

@[expose] public section

set_option maxRecDepth 16384

noncomputable section

namespace Cert.Ctc

open Idealize.ShloMosaic Idealize.ShloMosaic.TcCoe Idealize.ShloMosaic.Tactic
open Cert.KernelIdeal Cert.KernelIdeal.Gen

/-- One sequence's rows of a table of differences: the product of its log-probabilities with a matrix whose column `j` picks
    the class of symbol `j` and takes away the blank. -/
def rowD (tg : IVec S8x256 32) (off : Fin 2 → Nat) (h : S8x256.Slices off S1x256) (v : Vec Ideal S2048x1x256 .f32) :
    Vec Ideal S2048x1x256 .f32 :=
  shapeCast S2048x1x256
    (matmul (F := Ideal) (φ₁ := .f32) (φ₂ := .f32) dot_S2048x256_S256x256_S2048x256_1_0_0_1_n_n none (shapeCast S2048x256 v shapeCasts_S2048x1x256_S2048x256)
      (subf (sitofp .f32 (extui 32 (cmpi .eq (broadcastTo S256x256 (extractStridedSlice S1x256 off tg h)
        broadcasts_S1x256_S256x256) classes) natLt_1_32)) (k0_pay24 (F := Ideal)))
      (constant (F := Ideal) S2048x256 .f32 0#32)) shapeCasts_S2048x256_S2048x1x256

/-- One sequence's row of the table of sums. -/
def rowR (v : Vec Ideal S2048x1x256 .f32) : Vec Ideal S1x256 .f32 :=
  shapeCast S1x256 (matmul (F := Ideal) (φ₁ := .f32) (φ₂ := .f32) dot_S1x2048_S2048x256_S1x256_1_0_0_1_n_n none (k0_pay25 (F := Ideal))
    (shapeCast S2048x256 v shapeCasts_S2048x1x256_S2048x256) (constant (F := Ideal) S1x256 .f32 0#32)) shapeCasts_S1x256_S1x256

/-- One where two words agree, zero elsewhere. -/
def ind (a b : BitVec 32) : EReal := if a = b then 1 else 0

/-- The float of a comparison for equality is the indicator. -/
theorem sitofp_eq (a b : BitVec 32) :
    FloatOps.sitofp (F := Ideal) FTy.f32 (BitVec.setWidth 32 (IntOp.cmpi CmpIPredicate.eq a b)) = ind a b := by
  unfold ind
  by_cases h : a = b
  · subst h
    rw [if_pos rfl, show IntOp.cmpi CmpIPredicate.eq a a = 1#1 from by simp [IntOp.cmpi]]
    show (((BitVec.setWidth 32 1#1).toInt : ℝ) : EReal) = 1
    norm_num
  · rw [if_neg h, show IntOp.cmpi CmpIPredicate.eq a b = 0#1 from by
      show BitVec.ofBool (a == b) = 0#1
      rw [beq_false_of_ne h]; rfl]
    show (((BitVec.setWidth 32 0#1).toInt : ℝ) : EReal) = 0
    norm_num

/-- The first two tables: the log-probabilities weighed by the indicator of the symbol less the blank's. -/
def tableD (x0 : Vec Ideal S2048x8x256 .f32) (tg : IVec S8x256 32) : Vec Ideal S2048x8x256 .f32 := fun i =>
  ∑ x : Fin 256, x0 (ix3 (i 0) (i 1) x) * (ind (tg (ix2 (i 1) (i 2))) (BitVec.ofNat 32 x) - ind (BitVec.ofNat 32 x) 0#32)

/-- The third table: the sums over time. -/
def tableR (x0 : Vec Ideal S2048x8x256 .f32) : Vec Ideal S8x256 .f32 := fun i =>
  ∑ t : Fin 2048, x0 (ix3 t (i 0) (i 1))

/-- One batch row's product with the difference of indicators, element by element. -/
theorem rowD_apply (tg : IVec S8x256 32) (b : Fin 8) (h : S8x256.Slices ![(b : ℕ), 0] S1x256) (v : Vec Ideal S2048x1x256 .f32)
    (t : Fin 2048) (j : Fin 256) : rowD tg ![(b : ℕ), 0] h v (ix3 t 0 j)
      = ∑ x : Fin 256, v (ix3 t 0 x) * (ind (tg (ix2 b j)) (BitVec.ofNat 32 x) - ind (BitVec.ofNat 32 x) 0#32) := by
  unfold rowD
  pointwise [k0_pay24]
  simp only [sitofp_eq]

/-- The sum over the steps, element by element. -/
theorem rowR_apply (v : Vec Ideal S2048x1x256 .f32) (k : Fin 256) : rowR v (ix2 0 k) = ∑ t : Fin 2048, v (ix3 t 0 k) := by
  unfold rowR
  pointwise [k0_pay25]

/-- A piece of the first two tables is the table there. -/
theorem pieceD_eq (x0 : Vec Ideal S2048x8x256 .f32) (tg : IVec S8x256 32) (b : Fin 8) (h : S8x256.Slices ![(b : ℕ), 0] S1x256)
    (hin : ∀ a, ![0, (b : ℕ), 0] a + S2048x1x256.size a ≤ S2048x8x256.size a) (x : S2048x1x256.Idx) :
    rowD tg ![(b : ℕ), 0] h (seqOf x0 ![0, (b : ℕ), 0] hin) x
      = tableD x0 tg ((Rect.unit (s := S2048x8x256) ![0, (b : ℕ), 0] ![2048, 1, 256] hin).emb x) := by
  have e : ∀ (x : S2048x1x256.Idx), (Rect.unit (s := S2048x8x256) ![0, (b : ℕ), 0] ![2048, 1, 256] hin).emb x = ix3 (x 0) b (x 2) := by
    intro x
    have h1 : (x 1).val < 1 := (x 1).isLt
    funext a
    fin_cases a <;> ext <;> simp [Rect.unit, Rect.emb, Rect.toLoadRect, LoadRect.idx, ix3]
  rw [e]
  obtain ⟨t, j, rfl⟩ : ∃ (t : Fin 2048) (j : Fin 256), x = ix3 t 0 j := ⟨x 0, x 2, by
    funext a
    fin_cases a
    · rfl
    · exact Subsingleton.elim (α := Fin 1) _ _
    · rfl⟩
  refine (rowD_apply tg b h _ t j).trans ?_
  unfold tableD
  refine Finset.sum_congr rfl fun k _ => ?_
  have : seqOf x0 ![0, (b : ℕ), 0] hin (ix3 t 0 k) = x0 (ix3 t b k) := congrArg x0 (e (ix3 t 0 k))
  rw [this]
  rfl

/-- The same over the shifted symbols, which are cast to their own shape first. -/
theorem pieceS_eq (x0 : Vec Ideal S2048x8x256 .f32) (tg : IVec S8x256 32) (b : Fin 8) (h : S8x256.Slices ![(b : ℕ), 0] S1x256)
    (hin : ∀ a, ![0, (b : ℕ), 0] a + S2048x1x256.size a ≤ S2048x8x256.size a) (x : S2048x1x256.Idx) :
    rowD (shapeCast S8x256 tg shapeCasts_S8x256_S8x256) ![(b : ℕ), 0] h (seqOf x0 ![0, (b : ℕ), 0] hin) x
      = tableD x0 tg ((Rect.unit (s := S2048x8x256) ![0, (b : ℕ), 0] ![2048, 1, 256] hin).emb x) := by
  have e : shapeCast S8x256 tg shapeCasts_S8x256_S8x256 = tg := by
    funext i
    pointwise
  rw [e]
  exact pieceD_eq x0 tg b h hin x

/-- A piece of the third table is the table there. -/
theorem pieceR_eq (x0 : Vec Ideal S2048x8x256 .f32) (b : Fin 8)
    (hin : ∀ a, ![0, (b : ℕ), 0] a + S2048x1x256.size a ≤ S2048x8x256.size a)
    (hin' : ∀ a, ![(b : ℕ), 0] a + S1x256.size a ≤ S8x256.size a) (x : S1x256.Idx) :
    rowR (seqOf x0 ![0, (b : ℕ), 0] hin) x = tableR x0 ((Rect.unit (s := S8x256) ![(b : ℕ), 0] ![1, 256] hin').emb x) := by
  have e : ∀ (x : S2048x1x256.Idx), (Rect.unit (s := S2048x8x256) ![0, (b : ℕ), 0] ![2048, 1, 256] hin).emb x = ix3 (x 0) b (x 2) := by
    intro x
    have h1 : (x 1).val < 1 := (x 1).isLt
    funext a
    fin_cases a <;> ext <;> simp [Rect.unit, Rect.emb, Rect.toLoadRect, LoadRect.idx, ix3]
  have e' : (Rect.unit (s := S8x256) ![(b : ℕ), 0] ![1, 256] hin').emb x = ix2 b (x 1) := by
    have h1 : (x 0).val < 1 := (x 0).isLt
    funext a
    fin_cases a <;> ext <;> simp [Rect.unit, Rect.emb, Rect.toLoadRect, LoadRect.idx, ix2]
  rw [e']
  obtain ⟨j, rfl⟩ : ∃ j : Fin 256, x = ix2 0 j := ⟨x 1, by
    funext a
    fin_cases a
    · exact Subsingleton.elim (α := Fin 1) _ _
    · rfl⟩
  refine (rowR_apply _ j).trans ?_
  unfold tableR
  refine Finset.sum_congr rfl fun t _ => ?_
  exact congrArg x0 (e (ix3 t 0 j))

/-- Every entry of a table lies in its sequence's piece. -/
theorem cover3 (y : S2048x8x256.Idx) (b : Fin 8) (hb : (y 1).val = b)
    (hin : ∀ a, ![0, (b : ℕ), 0] a + ![2048, 1, 256] a ≤ S2048x8x256.size a) :
    y ∈ (Rect.unit (s := S2048x8x256) ![0, (b : ℕ), 0] ![2048, 1, 256] hin).set := by
  have h0 : (y 0).val < 2048 := (y 0).isLt
  have h2 : (y 2).val < 256 := (y 2).isLt
  refine (Rect.mem_set_unit).mpr fun a => ?_
  fin_cases a
  · exact ⟨Nat.zero_le _, by simpa using h0⟩
  · exact ⟨by simpa using hb.ge, by simpa using by omega⟩
  · exact ⟨Nat.zero_le _, by simpa using h2⟩

/-- The row's piece covers the row. -/
theorem cover2 (y : S8x256.Idx) (b : Fin 8) (hb : (y 0).val = b)
    (hin : ∀ a, ![(b : ℕ), 0] a + ![1, 256] a ≤ S8x256.size a) :
    y ∈ (Rect.unit (s := S8x256) ![(b : ℕ), 0] ![1, 256] hin).set := by
  have h1 : (y 1).val < 256 := (y 1).isLt
  refine (Rect.mem_set_unit).mpr fun a => ?_
  fin_cases a
  · exact ⟨by simpa using hb.ge, by simpa using by omega⟩
  · exact ⟨Nat.zero_le _, by simpa using h1⟩

/-- The first table. -/
theorem canonD_cover (x0 : Vec Ideal S2048x8x256 .f32) (tg : IVec S8x256 32) (y) : ∃ p ∈ (piecesD (F := Ideal) x0 tg), y ∈ p.1.set := by
  have hy : ∃ b : Fin 8, (y 1).val = b := ⟨⟨(y 1).val, (y 1).isLt⟩, rfl⟩
  obtain ⟨b, hb⟩ := hy
  unfold piecesD
  simp only [List.mem_cons, List.not_mem_nil, or_false, exists_eq_or_imp, exists_eq_left]
  fin_cases b
  · exact Or.inr (Or.inr (Or.inr (Or.inr (Or.inr (Or.inr (Or.inr (cover3 y 0 hb _)))))))
  · exact Or.inr (Or.inr (Or.inr (Or.inr (Or.inr (Or.inr (Or.inl (cover3 y 1 hb _)))))))
  · exact Or.inr (Or.inr (Or.inr (Or.inr (Or.inr (Or.inl (cover3 y 2 hb _))))))
  · exact Or.inr (Or.inr (Or.inr (Or.inr (Or.inl (cover3 y 3 hb _)))))
  · exact Or.inr (Or.inr (Or.inr (Or.inl (cover3 y 4 hb _))))
  · exact Or.inr (Or.inr (Or.inl (cover3 y 5 hb _)))
  · exact Or.inr (Or.inl (cover3 y 6 hb _))
  · exact Or.inl (cover3 y 7 hb _)

/-- The pieces stored for the symbols make up the table of differences. -/
theorem canonD (x0 : Vec Ideal S2048x8x256 .f32) (tg : IVec S8x256 32) : View.canon (piecesD (F := Ideal) x0 tg) = tableD x0 tg := by
  funext y
  refine View.canon_apply_of_pieces (tableD x0 tg) _ ?_ y (canonD_cover x0 tg y)
  intro p hp
  unfold piecesD at hp
  simp only [List.mem_cons, List.not_mem_nil, or_false] at hp
  rcases hp with rfl | rfl | rfl | rfl | rfl | rfl | rfl | rfl
  · exact pieceD_eq x0 tg 7 slices_S8x256_o7_0_S1x256 _
  · exact pieceD_eq x0 tg 6 slices_S8x256_o6_0_S1x256 _
  · exact pieceD_eq x0 tg 5 slices_S8x256_o5_0_S1x256 _
  · exact pieceD_eq x0 tg 4 slices_S8x256_o4_0_S1x256 _
  · exact pieceD_eq x0 tg 3 slices_S8x256_o3_0_S1x256 _
  · exact pieceD_eq x0 tg 2 slices_S8x256_o2_0_S1x256 _
  · exact pieceD_eq x0 tg 1 slices_S8x256_o1_0_S1x256 _
  · exact pieceD_eq x0 tg 0 slices_S8x256_o0_0_S1x256 _

/-- The second table, over the shifted symbols. -/
theorem canonS_cover (x0 : Vec Ideal S2048x8x256 .f32) (tg : IVec S8x256 32) (y) : ∃ p ∈ (piecesS (F := Ideal) x0 tg), y ∈ p.1.set := by
  have hy : ∃ b : Fin 8, (y 1).val = b := ⟨⟨(y 1).val, (y 1).isLt⟩, rfl⟩
  obtain ⟨b, hb⟩ := hy
  unfold piecesS
  simp only [List.mem_cons, List.not_mem_nil, or_false, exists_eq_or_imp, exists_eq_left]
  fin_cases b
  · exact Or.inr (Or.inr (Or.inr (Or.inr (Or.inr (Or.inr (Or.inr (cover3 y 0 hb _)))))))
  · exact Or.inr (Or.inr (Or.inr (Or.inr (Or.inr (Or.inr (Or.inl (cover3 y 1 hb _)))))))
  · exact Or.inr (Or.inr (Or.inr (Or.inr (Or.inr (Or.inl (cover3 y 2 hb _))))))
  · exact Or.inr (Or.inr (Or.inr (Or.inr (Or.inl (cover3 y 3 hb _)))))
  · exact Or.inr (Or.inr (Or.inr (Or.inl (cover3 y 4 hb _))))
  · exact Or.inr (Or.inr (Or.inl (cover3 y 5 hb _)))
  · exact Or.inr (Or.inl (cover3 y 6 hb _))
  · exact Or.inl (cover3 y 7 hb _)

/-- The pieces stored for the moved symbols make up theirs. -/
theorem canonS (x0 : Vec Ideal S2048x8x256 .f32) (tg : IVec S8x256 32) : View.canon (piecesS (F := Ideal) x0 tg) = tableD x0 tg := by
  funext y
  refine View.canon_apply_of_pieces (tableD x0 tg) _ ?_ y (canonS_cover x0 tg y)
  intro p hp
  unfold piecesS at hp
  simp only [List.mem_cons, List.not_mem_nil, or_false] at hp
  rcases hp with rfl | rfl | rfl | rfl | rfl | rfl | rfl | rfl
  · exact pieceS_eq x0 tg 7 slices_S8x256_o7_0_S1x256 _
  · exact pieceS_eq x0 tg 6 slices_S8x256_o6_0_S1x256 _
  · exact pieceS_eq x0 tg 5 slices_S8x256_o5_0_S1x256 _
  · exact pieceS_eq x0 tg 4 slices_S8x256_o4_0_S1x256 _
  · exact pieceS_eq x0 tg 3 slices_S8x256_o3_0_S1x256 _
  · exact pieceS_eq x0 tg 2 slices_S8x256_o2_0_S1x256 _
  · exact pieceS_eq x0 tg 1 slices_S8x256_o1_0_S1x256 _
  · exact pieceS_eq x0 tg 0 slices_S8x256_o0_0_S1x256 _

/-- The third table. -/
theorem canonR_cover (x0 : Vec Ideal S2048x8x256 .f32) (y) : ∃ p ∈ (piecesR (F := Ideal) x0), y ∈ p.1.set := by
  have hy : ∃ b : Fin 8, (y 0).val = b := ⟨⟨(y 0).val, (y 0).isLt⟩, rfl⟩
  obtain ⟨b, hb⟩ := hy
  unfold piecesR
  simp only [List.mem_cons, List.not_mem_nil, or_false, exists_eq_or_imp, exists_eq_left]
  fin_cases b
  · exact Or.inr (Or.inr (Or.inr (Or.inr (Or.inr (Or.inr (Or.inr (cover2 y 0 hb _)))))))
  · exact Or.inr (Or.inr (Or.inr (Or.inr (Or.inr (Or.inr (Or.inl (cover2 y 1 hb _)))))))
  · exact Or.inr (Or.inr (Or.inr (Or.inr (Or.inr (Or.inl (cover2 y 2 hb _))))))
  · exact Or.inr (Or.inr (Or.inr (Or.inr (Or.inl (cover2 y 3 hb _)))))
  · exact Or.inr (Or.inr (Or.inr (Or.inl (cover2 y 4 hb _))))
  · exact Or.inr (Or.inr (Or.inl (cover2 y 5 hb _)))
  · exact Or.inr (Or.inl (cover2 y 6 hb _))
  · exact Or.inl (cover2 y 7 hb _)

/-- The pieces of the sums over the steps make up the table of sums. -/
theorem canonR (x0 : Vec Ideal S2048x8x256 .f32) : View.canon (piecesR (F := Ideal) x0) = tableR x0 := by
  funext y
  refine View.canon_apply_of_pieces (tableR x0) _ ?_ y (canonR_cover x0 y)
  intro p hp
  unfold piecesR at hp
  simp only [List.mem_cons, List.not_mem_nil, or_false] at hp
  rcases hp with rfl | rfl | rfl | rfl | rfl | rfl | rfl | rfl
  · exact pieceR_eq x0 7 _ inb_S8x256_S1x256_7_0
  · exact pieceR_eq x0 6 _ inb_S8x256_S1x256_6_0
  · exact pieceR_eq x0 5 _ inb_S8x256_S1x256_5_0
  · exact pieceR_eq x0 4 _ inb_S8x256_S1x256_4_0
  · exact pieceR_eq x0 3 _ inb_S8x256_S1x256_3_0
  · exact pieceR_eq x0 2 _ inb_S8x256_S1x256_2_0
  · exact pieceR_eq x0 1 _ inb_S8x256_S1x256_1_0
  · exact pieceR_eq x0 0 _ inb_S8x256_S1x256_0_0

end Cert.Ctc

end
-- ==== Proof.Step.lean ====
/- One trip of the kernel's loop: what it makes of the carried state, and the loads it makes from the two tables. -/
module

public import proofs.«01_k».proof.Proof.Body
public import Idealize.ShloMosaic.Lib.Pointwise
public import proofs.«01_k».proof.Proof.LogSum
public import proofs.«01_k».proof.Proof.Paths

@[expose] public section

set_option maxRecDepth 16384

noncomputable section

namespace Cert.Ctc

open Idealize.ShloMosaic Idealize.ShloMosaic.TcCoe Idealize.ShloMosaic.Tactic
open Idealize.SL Idealize.SL.RA Idealize.SL.BI
open Cert.KernelIdeal Cert.KernelIdeal.Gen

section

variable {F : FTy → Type} [FloatOps F] [Named F]

/-- The state after a trip, from the masks, the rows loaded from the tables and the state before. -/
def stepOf (x3 x4 : Vec F S8x256 .f32) (d ds d' : Vec F S1x8x256 .f32)
    (st : FVec F S8x256 .f32 × FVec F S8x256 .f32 × FVec F S8x1 .f32) :
    FVec F S8x256 .f32 × FVec F S8x256 .f32 × FVec F S8x1 .f32 :=
  (k0_pay18 st.1 (k0_pay14 k0_pay67 st.2.1 ds) (k0_pay15 k0_pay67 st.1 ds)
      (k0_pay16 (k0_pay65 x4) k0_pay68 st.2.1 ds) (k0_pay17 k0_pay67 st.1 st.2.1 ds),
    k0_pay19 st.1 st.2.1 (k0_pay2 d) (k0_pay4 d') (k0_pay7 d) (k0_pay8 (k0_pay64 x3) d ds) (k0_pay9 (k0_pay64 x3) ds)
      (k0_pay10 (k0_pay64 x3) (k0_pay65 x4) ds) (k0_pay11 k0_pay67 st.2.1) (k0_pay12 k0_pay68 st.2.1)
      (k0_pay13 k0_pay67 st.1),
    k0_pay72 st.2.2 (k0_pay20 st.2.1 (k0_pay7 d)) (k0_pay21 st.1 (k0_pay2 d)) (k0_pay22 (k0_pay64 x3) st.2.1 (k0_pay2 d)))

end

set_option maxHeartbeats 1000000 in
/-- A trip's result, over what the two tables hold. -/
theorem trip_eq (𝒱 : Variants) (c : Dev nD) (bd : Option 𝒱.V) (arg0 : Memref sig .tc .vmem S2048x8x256 .f32) (harg0 : arg0.IsWhole) (arg1 : Memref sig .tc .vmem S8x256 .i32) (harg1 : arg1.IsWhole) (arg2 : Memref sig .tc .vmem S8x256 .i32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x1 .i32) (harg5 : arg5.IsWhole) (arg6 : Memref sig .tc .vmem S1x1 .f32) (harg6 : arg6.IsWhole) (arg7 : Memref sig .tc .vmem S2048x8x256 .f32) (harg7 : arg7.IsWhole) (arg8 : Memref sig .tc .vmem S2048x8x256 .f32) (harg8 : arg8.IsWhole) (arg9 : Memref sig .tc .vmem S8x256 .f32) (harg9 : arg9.IsWhole) (x3 x4 : Vec Ideal S8x256 .f32) (X7 : BufTy.Contents (Elt Ideal) arg7.view.ty) (X8 : BufTy.Contents (Elt Ideal) arg8.view.ty) (k : Fin k0_t1_loop.trips) (st : FVec Ideal S8x256 .f32 × FVec Ideal S8x256 .f32 × FVec Ideal S8x1 .f32) :
    tripR_k0_t1 (F := Ideal) 𝒱 c bd arg0 harg0 arg1 harg1 arg2 harg2 arg3 harg3 arg4 harg4 arg5 harg5 arg6 harg6 arg7 harg7 arg8 harg8 arg9 harg9 x3 x4 X7 X8 k st
      = stepOf x3 x4
          (View.readAt (Elt Ideal) arg7.view (Rect.unit (s := S2048x8x256) (k0_off1 k) S1x8x256.size (Cert.KernelIdeal.Gen.k0_off1_inb k)).toLoadRect X7)
          (View.readAt (Elt Ideal) arg8.view (Rect.unit (s := S2048x8x256) (k0_off1 k) S1x8x256.size (Cert.KernelIdeal.Gen.k0_off1_inb k)).toLoadRect X8)
          (View.readAt (Elt Ideal) arg7.view (Rect.unit (s := S2048x8x256) (k0_off2 k) S1x8x256.size (Cert.KernelIdeal.Gen.k0_off2_inb k)).toLoadRect X7) st := by
  unfold tripR_k0_t1 trip_k0_t1
  dsimp only
  sl_unfold_words
  unfold stepOf
  rfl

/-- The named constant of the program is `⊥`. -/
theorem mask_bot : (Named.named (F := Ideal) κ "mask" (φ := .f32) 0xF149F2CA#32 : EReal) = ⊥ :=
  IdealRules.named_const.ideal_named_scalar _ _ _ _ rfl

/-- The exponentials of one row, by position, zero past its end. -/
def lane (v : FVec Ideal S8x256 .f32) (b : Fin 8) (j : ℕ) : ENNReal :=
  if h : j < 256 then eexp (v (ix2 b ⟨j, h⟩)) else 0

/-- A lane's weight, within the range. -/
theorem lane_fin (v : FVec Ideal S8x256 .f32) (b : Fin 8) (j : Fin 256) : lane v b j = eexp (v (ix2 b j)) := by
  unfold lane; rw [dif_pos j.isLt]

/-- A row shifted by one position, `⊥` coming in. -/
theorem eexp_shift1 (v : FVec Ideal S8x256 .f32) (b : Fin 8) (j : Fin 256) (h : ∀ h' : ¬ (j : ℕ) < 1, (j : ℕ) - 1 < 256) :
    eexp (if h' : (j : ℕ) < 1 then (⊥ : EReal) else v (ix2 b ⟨(j : ℕ) - 1, h h'⟩)) = prev (lane v b) j := by
  obtain ⟨j, hj⟩ := j
  cases j with
  | zero => rw [dif_pos (by simp)]; exact eexp_bot
  | succ i =>
    rw [dif_neg (by simp)]
    show _ = lane v b i
    unfold lane
    rw [dif_pos (by omega)]
    rfl

/-- A row shifted by two positions, `⊥` coming in. -/
theorem eexp_shift2 (v : FVec Ideal S8x256 .f32) (b : Fin 8) (j : Fin 256) (h : ∀ h' : ¬ (j : ℕ) < 2, (j : ℕ) - 2 < 256) :
    eexp (if h' : (j : ℕ) < 2 then (⊥ : EReal) else v (ix2 b ⟨(j : ℕ) - 2, h h'⟩)) = prev (prev (lane v b)) j := by
  obtain ⟨j, hj⟩ := j
  match j, hj with
  | 0, _ => rw [dif_pos (by simp)]; exact eexp_bot
  | 1, _ => rw [dif_pos (by simp)]; exact eexp_bot
  | i + 2, hj =>
    rw [dif_neg (by simp)]
    show _ = lane v b i
    unfold lane
    rw [dif_pos (by omega)]
    rfl

/-- Something or `⊥`. -/
theorem eexp_ite (p : Prop) [Decidable p] (x : EReal) : eexp (if p then x else ⊥) = if p then eexp x else 0 := by
  split_ifs
  · rfl
  · exact eexp_bot

/-- Something or `⊥`, by two conditions. -/
theorem eexp_select (p q : Prop) [Decidable p] [Decidable q] (x : EReal) :
    eexp (Scalar.select (IntOp.andi (BitVec.ofBool (decide p)) (BitVec.ofBool (decide q))) x ⊥)
      = if p ∧ q then eexp x else 0 := by
  by_cases hp : p <;> by_cases hq : q <;> simp [hp, hq, Scalar.select, IntOp.andi, eexp_bot]

/-- A logarithm of one plus an exponential. -/
theorem eexp_log1 (x : EReal) : eexp (Ideal.log (1 + Ideal.exp x)) = 1 + eexp x := by
  rw [ideal_exp, show (1 : EReal) = ((1 : ENNReal) : EReal) from rfl, ← EReal.coe_ennreal_add, eexp_log]

/-- A logarithm of one plus two exponentials, or of one. -/
theorem eexp_log1_ite (p : Prop) [Decidable p] (x y : EReal) :
    eexp (Ideal.log (1 + if p then Ideal.exp x + Ideal.exp y else 0)) = 1 + if p then eexp x + eexp y else 0 := by
  split_ifs
  · rw [ideal_exp, ideal_exp, show (1 : EReal) = ((1 : ENNReal) : EReal) from rfl, ← EReal.coe_ennreal_add,
      ← EReal.coe_ennreal_add, eexp_log]
  · rw [show (1 : EReal) + 0 = ((1 + 0 : ENNReal) : EReal) from by simp, eexp_log]

section

variable (x3 x4 : Vec Ideal S8x256 .f32) (d ds d' : Vec Ideal S1x8x256 .f32)
    (st : FVec Ideal S8x256 .f32 × FVec Ideal S8x256 .f32 × FVec Ideal S8x1 .f32) (b : Fin 8)

/-- Lanes of a vector without plus infinity have finite weights. -/
theorem lane_ne_top {v : FVec Ideal S8x256 .f32} {b : Fin 8} (h : ∀ j, v (ix2 b j) ≠ ⊤) (j : ℕ) : lane v b j ≠ ⊤ := by
  unfold lane
  split_ifs
  · exact mt eexp_eq_top.mp (h _)
  · simp

/-- The blank states after a trip. -/
theorem step_blank (j : Fin 256) (hb : ∀ j, lane st.1 b j ≠ ⊤) (hl : ∀ j, lane st.2.1 b j ≠ ⊤)
    (hs : eexp (ds (ix3 0 b j)) ≠ ⊤) :
    eexp ((stepOf x3 x4 d ds d' st).1 (ix2 b j))
      = lane st.1 b j + prev (lane st.2.1 b) j * (1 + eexp (ds (ix3 0 b j)))
        + prev (lane st.1 b) j * eexp (ds (ix3 0 b j))
        + prev (prev (lane st.2.1 b)) j * (if x4 (ix2 b j) ≠ 0 then eexp (ds (ix3 0 b j)) else 0) := by
  unfold stepOf
  dsimp only
  pointwise [k0_pay18, k0_pay14, k0_pay15, k0_pay16, k0_pay17, k0_pay11, k0_pay12, k0_pay13, k0_pay6, k0_pay3, k0_pay67,
    k0_pay68, k0_pay65]
  simp only [mask_bot, max_bot_right]
  refine lse4_of (lane_fin _ _ _).symm (hb _) ?_ (ENNReal.mul_ne_top (prev_ne_top hl _) (ENNReal.add_ne_top.mpr ⟨by simp, hs⟩)) ?_
    (ENNReal.mul_ne_top (prev_ne_top hb _) hs) ?_ (ENNReal.mul_ne_top (prev_ne_top (prev_ne_top hl) _) ?_)
  · rw [eexp_add, eexp_shift1, eexp_log1]
  · rw [eexp_add, eexp_shift1]
  · rw [eexp_add, eexp_shift2, eexp_ite]
  · split_ifs
    · exact hs
    · simp

/-- The symbol states after a trip. -/
theorem step_sym (j : Fin 256) (hb : ∀ j, lane st.1 b j ≠ ⊤) (hl : ∀ j, lane st.2.1 b j ≠ ⊤)
    (h1 : eexp (d (ix3 0 b j)) ≠ ⊤) (hs : eexp (ds (ix3 0 b j)) ≠ ⊤) :
    eexp ((stepOf x3 x4 d ds d' st).2.1 (ix2 b j))
      = (lane st.2.1 b j * eexp (d (ix3 0 b j)) + lane st.1 b j * (1 + eexp (d (ix3 0 b j)))
        + prev (lane st.2.1 b) j * (1 + if x3 (ix2 b j) ≠ 0 then eexp (d (ix3 0 b j)) + eexp (ds (ix3 0 b j)) else 0)
        + prev (lane st.1 b) j * (if x3 (ix2 b j) ≠ 0 then eexp (ds (ix3 0 b j)) else 0)
        + prev (prev (lane st.2.1 b)) j * (if x3 (ix2 b j) ≠ 0 ∧ x4 (ix2 b j) ≠ 0 then eexp (ds (ix3 0 b j)) else 0))
        * eexp (d' (ix3 0 b j)) := by
  unfold stepOf
  dsimp only
  pointwise [k0_pay19, k0_pay2, k0_pay3, k0_pay4, k0_pay5, k0_pay6, k0_pay7, k0_pay8, k0_pay9, k0_pay10, k0_pay11,
    k0_pay12, k0_pay13, k0_pay67, k0_pay68, k0_pay64, k0_pay65]
  simp only [mask_bot, max_bot_right]
  rw [eexp_add]
  congr 1
  refine lse5_of ?_ (ENNReal.mul_ne_top (hl j) h1) ?_ (ENNReal.mul_ne_top (hb j) (ENNReal.add_ne_top.mpr ⟨by simp, h1⟩)) ?_
    (ENNReal.mul_ne_top (prev_ne_top hl _) (ENNReal.add_ne_top.mpr ⟨by simp, ?_⟩)) ?_
    (ENNReal.mul_ne_top (prev_ne_top hb _) ?_) ?_ (ENNReal.mul_ne_top (prev_ne_top (prev_ne_top hl) _) ?_)
  · rw [eexp_add, lane_fin]
  · rw [eexp_add, lane_fin, eexp_log1]
  · rw [eexp_add, eexp_shift1, eexp_log1_ite]
  · split_ifs
    · exact ENNReal.add_ne_top.mpr ⟨h1, hs⟩
    · simp
  · rw [eexp_add, eexp_shift1, eexp_ite]
  · split_ifs
    · exact hs
    · simp
  · rw [eexp_add, eexp_shift2, eexp_select]
  · split_ifs
    · exact hs
    · simp

/-- The last blank state after a trip. -/
theorem step_last (hb : ∀ j, lane st.1 b j ≠ ⊤) (hl : ∀ j, lane st.2.1 b j ≠ ⊤) (h2 : eexp (st.2.2 (ix2 b 0)) ≠ ⊤)
    (h1 : eexp (d (ix3 0 b 255)) ≠ ⊤) :
    eexp ((stepOf x3 x4 d ds d' st).2.2 (ix2 b 0))
      = eexp (st.2.2 (ix2 b 0)) + lane st.2.1 b 255 * (1 + eexp (d (ix3 0 b 255)))
        + lane st.1 b 255 * eexp (d (ix3 0 b 255))
        + lane st.2.1 b 254 * (if x3 (ix2 b 255) ≠ 0 then eexp (d (ix3 0 b 255)) else 0) := by
  unfold stepOf
  dsimp only
  pointwise [k0_pay72, k0_pay20, k0_pay21, k0_pay22, k0_pay64, k0_pay2, k0_pay7, k0_pay5]
  simp only [mask_bot, max_bot_right]
  refine lse4_of rfl h2 ?_ (ENNReal.mul_ne_top (hl _) (ENNReal.add_ne_top.mpr ⟨by simp, h1⟩)) ?_
    (ENNReal.mul_ne_top (hb _) h1) ?_ (ENNReal.mul_ne_top (hl _) ?_)
  · rw [eexp_add, eexp_log1]; rfl
  · rw [eexp_add]; rfl
  · rw [eexp_add, eexp_ite]; rfl
  · split_ifs
    · exact h1
    · simp

end

end Cert.Ctc

end
-- ==== Proof.Loop.lean ====
/- The kernel's loop: before trip `n` the carried state holds the weights of step `2 n`. -/
module

public import proofs.«01_k».proof.Proof.Step

@[expose] public section

set_option maxRecDepth 16384

noncomputable section

namespace Cert.Ctc

open Idealize.ShloMosaic Idealize.ShloMosaic.TcCoe Idealize.ShloMosaic.Tactic
open Cert.KernelIdeal Cert.KernelIdeal.Gen

/-- What the carried state of one sequence holds: the weights of step `t`, the last blank state apart. -/
def Holds (e : ℕ → ℕ → ENNReal) (M : ℕ → Prop) [DecidablePred M] (b : Fin 8)
    (st : FVec Ideal S8x256 .f32 × FVec Ideal S8x256 .f32 × FVec Ideal S8x1 .f32) (t : ℕ) : Prop :=
  (∀ j : Fin 256, eexp (st.1 (ix2 b j)) = blankW e M t j) ∧ (∀ j : Fin 256, eexp (st.2.1 (ix2 b j)) = symW e M t j)
    ∧ eexp (st.2.2 (ix2 b 0)) = blankW e M t 256

/-- The value before place `j` depends on the places before `j` only. -/
theorem prev_congr {f g : ℕ → ENNReal} {j : ℕ} (h : ∀ i, i < j → f i = g i) : prev f j = prev g j := by
  cases j with
  | zero => rfl
  | succ i => exact h i (Nat.lt_succ_self i)

section

variable {e : ℕ → ℕ → ENNReal} {M : ℕ → Prop} [DecidablePred M] {b : Fin 8}
    {st : FVec Ideal S8x256 .f32 × FVec Ideal S8x256 .f32 × FVec Ideal S8x1 .f32} {t : ℕ}

/-- The blanks' lanes hold the blanks' weights. -/
theorem Holds.blank (h : Holds e M b st t) (j : ℕ) (hj : j < 256) : lane st.1 b j = blankW e M t j := by
  unfold lane; rw [dif_pos hj]; exact h.1 ⟨j, hj⟩

/-- The symbols' lanes hold the symbols' weights. -/
theorem Holds.sym (h : Holds e M b st t) (j : ℕ) (hj : j < 256) : lane st.2.1 b j = symW e M t j := by
  unfold lane; rw [dif_pos hj]; exact h.2.1 ⟨j, hj⟩

/-- A vector whose lanes' weights are finite has no entry plus infinity. -/
theorem lane_ne_top' {v : FVec Ideal S8x256 .f32} {f : ℕ → ENNReal} (hf : ∀ j, f j ≠ ⊤) (h : ∀ j, j < 256 → lane v b j = f j)
    (j : ℕ) : lane v b j ≠ ⊤ := by
  by_cases hj : j < 256
  · rw [h j hj]; exact hf j
  · unfold lane; rw [dif_neg hj]; simp

/-- One trip takes the weights of step `t` to those of step `t + 2`. -/
theorem Holds.step (h : Holds e M b st t) (he : ∀ t j, e t j ≠ ⊤) (x3 x4 : Vec Ideal S8x256 .f32)
    (d ds d' : Vec Ideal S1x8x256 .f32) (h3 : ∀ j : Fin 256, x3 (ix2 b j) ≠ 0 ↔ M j)
    (h4 : ∀ (j : Fin 256) (i : ℕ), (j : ℕ) = i + 1 → (x4 (ix2 b j) ≠ 0 ↔ M i))
    (hd : ∀ j : Fin 256, eexp (d (ix3 0 b j)) = e (t + 1) j) (hd' : ∀ j : Fin 256, eexp (d' (ix3 0 b j)) = e (t + 2) j)
    (hs : ∀ (j : Fin 256) (i : ℕ), (j : ℕ) = i + 1 → eexp (ds (ix3 0 b j)) = e (t + 1) i)
    (hst : ∀ j : Fin 256, eexp (ds (ix3 0 b j)) ≠ ⊤) : Holds e M b (stepOf x3 x4 d ds d' st) (t + 2) := by
  have hw := weights_ne_top (M := M) he t
  have hb := lane_ne_top' hw.1 h.blank
  have hl := lane_ne_top' hw.2 h.sym
  have p1 : ∀ j : Fin 256, prev (lane st.1 b) j = prev (blankW e M t) j := fun j =>
    prev_congr fun i hi => h.blank i (by omega)
  have p2 : ∀ j : Fin 256, prev (lane st.2.1 b) j = prev (symW e M t) j := fun j =>
    prev_congr fun i hi => h.sym i (by omega)
  have p3 : ∀ j : Fin 256, prev (prev (lane st.2.1 b)) j = prev (prev (symW e M t)) j := fun j =>
    prev_congr fun i hi => prev_congr fun i' hi' => h.sym i' (by omega)
  have hd1 : ∀ j : Fin 256, eexp (d (ix3 0 b j)) ≠ ⊤ := fun j => by rw [hd]; exact he _ _
  refine ⟨fun j => ?_, fun j => ?_, ?_⟩
  · rw [step_blank _ _ _ _ _ _ _ j hb hl (hst j), blankW_two (hs j) (h4 j), p1, p2, p3, h.blank _ j.isLt]
  · rw [step_sym _ _ _ _ _ _ _ j hb hl (hd1 j) (hst j), symW_two (hs j) (h4 j), p1, p2, p3, h.blank _ j.isLt, h.sym _ j.isLt,
      hd, hd', if_congr (h3 j) rfl rfl, if_congr (h3 j) rfl rfl, if_congr (and_congr_left' (h3 j)) rfl rfl]
  · rw [step_last _ _ _ _ _ _ _ hb hl (by rw [h.2.2]; exact hw.1 _) (hd1 255), blankW_two_last (j := 254), h.2.2,
      h.sym 255 (by decide), h.sym 254 (by decide), h.blank 255 (by decide), hd, if_congr (h3 255) rfl rfl]
    rfl

end

/-- The row of a table that a load of one row reads. -/
theorem row_of (T : Vec Ideal S2048x8x256 .f32) {off : Fin 3 → Nat} (t : Fin 2048) (h : off = ![(t : ℕ), 0, 0])
    (hin : ∀ a, off a + S1x8x256.size a ≤ S2048x8x256.size a) (b : Fin 8) (j : Fin 256) :
    T ((Rect.unit (s := S2048x8x256) off S1x8x256.size hin).toLoadRect.idx (ix3 0 b j)) = T (ix3 t b j) := by
  subst h
  congr 1
  funext a
  fin_cases a <;> ext <;> simp [Rect.unit, Rect.toLoadRect, LoadRect.idx]

/-- A pair's first step reads row `2k + 1`. -/
theorem off1_eq (k : Fin k0_t1_loop.trips) : k0_off1 k = ![2 * k.val + 1, 0, 0] := by
  have hk : k.val < 1023 := Nat.lt_of_lt_of_le k.isLt k0_t1_abs.2.1
  unfold k0_off1
  simp only [Scf.iv, Scalar.muli, Scalar.addi, Scalar.indexCast, IntOp.addi, IntOp.muli]
  congr 1
  simp
  omega

/-- A pair's second step reads row `2k + 2`. -/
theorem off2_eq (k : Fin k0_t1_loop.trips) : k0_off2 k = ![2 * k.val + 2, 0, 0] := by
  have hk : k.val < 1023 := Nat.lt_of_lt_of_le k.isLt k0_t1_abs.2.1
  unfold k0_off2
  simp only [Scf.iv, Scalar.muli, Scalar.addi, Scalar.indexCast, IntOp.addi, IntOp.muli]
  congr 1
  simp
  omega

/-- The loop makes 1023 trips. -/
theorem trips_eq : Scf.trips (0#32) (Scalar.addi 0#32 1023#32) 1#32 = 1023 := by
  decide +kernel

/-- The loop's state after `n` trips holds the weights of step `2 n`. -/
theorem loop_holds (𝒱 : Variants) (c : Dev nD) (bd : Option 𝒱.V) (arg0 : Memref sig .tc .vmem S2048x8x256 .f32) (harg0 : arg0.IsWhole) (arg1 : Memref sig .tc .vmem S8x256 .i32) (harg1 : arg1.IsWhole) (arg2 : Memref sig .tc .vmem S8x256 .i32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x1 .i32) (harg5 : arg5.IsWhole) (arg6 : Memref sig .tc .vmem S1x1 .f32) (harg6 : arg6.IsWhole) (arg7 : Memref sig .tc .vmem S2048x8x256 .f32) (harg7 : arg7.IsWhole) (arg8 : Memref sig .tc .vmem S2048x8x256 .f32) (harg8 : arg8.IsWhole) (arg9 : Memref sig .tc .vmem S8x256 .f32) (harg9 : arg9.IsWhole) (x3 x4 : Vec Ideal S8x256 .f32) (X7 : BufTy.Contents (Elt Ideal) arg7.view.ty) (X8 : BufTy.Contents (Elt Ideal) arg8.view.ty) (init : FVec Ideal S8x256 .f32 × FVec Ideal S8x256 .f32 × FVec Ideal S8x1 .f32)
    {e : ℕ → ℕ → ENNReal} {M : ℕ → Prop} [DecidablePred M] {b : Fin 8} (he : ∀ t j, e t j ≠ ⊤)
    (h3 : ∀ j : Fin 256, x3 (ix2 b j) ≠ 0 ↔ M j)
    (h4 : ∀ (j : Fin 256) (i : ℕ), (j : ℕ) = i + 1 → (x4 (ix2 b j) ≠ 0 ↔ M i))
    (h7 : ∀ (t : Fin 2048) (j : Fin 256), eexp (arg7.view.read (Elt Ideal) X7 (ix3 t b j)) = e t j)
    (h8 : ∀ (t : Fin 2048) (j : Fin 256) (i : ℕ), (j : ℕ) = i + 1 → eexp (arg8.view.read (Elt Ideal) X8 (ix3 t b j)) = e t i)
    (h8t : ∀ (t : Fin 2048) (j : Fin 256), eexp (arg8.view.read (Elt Ideal) X8 (ix3 t b j)) ≠ ⊤)
    (h0 : Holds e M b init 0) (n : ℕ) (hn : n ≤ 1023) :
    Holds e M b (st_k0_t1 (F := Ideal) 𝒱 c bd arg0 harg0 arg1 harg1 arg2 harg2 arg3 harg3 arg4 harg4 arg5 harg5 arg6 harg6 arg7 harg7 arg8 harg8 arg9 harg9 x3 x4 X7 X8 init n) (2 * n) := by
  induction n with
  | zero => exact h0
  | succ n ih =>
    have hn' : n < k0_t1_loop.trips := by
      have : k0_t1_loop.trips = 1023 := trips_eq
      omega
    have ih := ih (by omega)
    have hs := st_k0_t1_succ (F := Ideal) 𝒱 c bd arg0 harg0 arg1 harg1 arg2 harg2 arg3 harg3 arg4 harg4 arg5 harg5 arg6 harg6 arg7 harg7 arg8 harg8 arg9 harg9 x3 x4 X7 X8 init ⟨n, hn'⟩
    rw [trip_eq] at hs
    dsimp only at hs
    rw [hs]
    have t1 : 2 * n + 1 < 2048 := by omega
    have t2 : 2 * n + 2 < 2048 := by omega
    have r7 : ∀ j : Fin 256, View.readAt (Elt Ideal) arg7.view (Rect.unit (s := S2048x8x256) (k0_off1 ⟨n, hn'⟩) S1x8x256.size (Cert.KernelIdeal.Gen.k0_off1_inb ⟨n, hn'⟩)).toLoadRect X7 (ix3 0 b j) = arg7.view.read (Elt Ideal) X7 (ix3 ⟨2 * n + 1, t1⟩ b j) :=
      fun j => row_of (arg7.view.read (Elt Ideal) X7) ⟨2 * n + 1, t1⟩ (off1_eq _) _ b j
    have r8 : ∀ j : Fin 256, View.readAt (Elt Ideal) arg8.view (Rect.unit (s := S2048x8x256) (k0_off1 ⟨n, hn'⟩) S1x8x256.size (Cert.KernelIdeal.Gen.k0_off1_inb ⟨n, hn'⟩)).toLoadRect X8 (ix3 0 b j) = arg8.view.read (Elt Ideal) X8 (ix3 ⟨2 * n + 1, t1⟩ b j) :=
      fun j => row_of (arg8.view.read (Elt Ideal) X8) ⟨2 * n + 1, t1⟩ (off1_eq _) _ b j
    have r7' : ∀ j : Fin 256, View.readAt (Elt Ideal) arg7.view (Rect.unit (s := S2048x8x256) (k0_off2 ⟨n, hn'⟩) S1x8x256.size (Cert.KernelIdeal.Gen.k0_off2_inb ⟨n, hn'⟩)).toLoadRect X7 (ix3 0 b j) = arg7.view.read (Elt Ideal) X7 (ix3 ⟨2 * n + 2, t2⟩ b j) :=
      fun j => row_of (arg7.view.read (Elt Ideal) X7) ⟨2 * n + 2, t2⟩ (off2_eq _) _ b j
    refine Holds.step ih he x3 x4 _ _ _ h3 h4 ?_ ?_ ?_ ?_
    · intro j; rw [r7]; exact h7 _ j
    · intro j; rw [r7']; exact h7 _ j
    · intro j i hi; rw [r8]; exact h8 _ j i hi
    · intro j; rw [r8]; exact h8t _ j

end Cert.Ctc

end
-- ==== Proof.Loss.lean ====
/- The loss the kernel computes after its loop: one more step, the two states a path may end in, and the mean over the
   sequences. -/
module

public import proofs.«01_k».proof.Proof.Loop
public import proofs.«01_k».proof.Proof.Spec

@[expose] public section

set_option maxRecDepth 16384

noncomputable section

namespace Cert.Ctc

open Idealize.ShloMosaic Idealize.ShloMosaic.TcCoe Idealize.ShloMosaic.Tactic
open Cert.KernelIdeal Cert.KernelIdeal.Gen

/-- A selection by a comparison for equality is a case distinction. -/
theorem select_eq {α : Type} (a b : BitVec 32) (x y : α) :
    Scalar.select (IntOp.cmpi CmpIPredicate.eq a b) x y = if a = b then x else y := by
  by_cases h : a = b
  · subst h
    rw [if_pos rfl, show IntOp.cmpi CmpIPredicate.eq a a = 1#1 from by simp [IntOp.cmpi]]
    rfl
  · rw [if_neg h, show IntOp.cmpi CmpIPredicate.eq a b = 0#1 from by
      show BitVec.ofBool (a == b) = 0#1
      rw [beq_false_of_ne h]; rfl]
    rfl

/-- A selection by a true bit. -/
theorem select_true {α : Type} (x y : α) : Scalar.select (BitVec.ofBool true) x y = x := rfl

/-- A selection by a false bit. -/
theorem select_false {α : Type} (x y : α) : Scalar.select (BitVec.ofBool false) x y = y := rfl

/-- A length of at most 256 is at least 256 only where it equals 256. -/
theorem sge_256 (n : ℕ) (h : n < 257) : IntOp.cmpi CmpIPredicate.sge (BitVec.ofNat 32 n) 256#32 = BitVec.ofBool (decide (n = 256)) := by
  have : ∀ n : Fin 257, IntOp.cmpi CmpIPredicate.sge (BitVec.ofNat 32 n) 256#32 = BitVec.ofBool (decide (n.val = 256)) := by
    decide +kernel
  exact this ⟨n, h⟩

/-- Numbers that fit a word are equal where their words are. -/
theorem ofNat_inj32 {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A row's entry picked out by a sum against an indicator. -/
theorem sum_pick (f : Fin 256 → EReal) (n : Fin 256) :
    ∑ x : Fin 256, Scalar.select (IntOp.cmpi CmpIPredicate.eq (BitVec.ofNat 32 x) (BitVec.ofNat 32 n)) (f x) 0 = f n := by
  rw [Finset.sum_eq_single n]
  · rw [select_eq, if_pos rfl]
  · intro x _ hx
    rw [select_eq, if_neg]
    rw [ofNat_inj32 (by omega) (by omega)]
    exact fun h => hx (Fin.ext h)
  · exact fun h => absurd (Finset.mem_univ _) h

section

variable (x3 : Vec Ideal S8x256 .f32) (x5 : Vec Ideal S8x1 .i32)
    (st : FVec Ideal S8x256 .f32 × FVec Ideal S8x256 .f32 × FVec Ideal S8x1 .f32) (d : Vec Ideal S1x8x256 .f32)
    (rs : Vec Ideal S8x1 .f32)

/-- The state the loop starts from holds the weights of the first step. -/
theorem init_holds {e : ℕ → ℕ → ENNReal} {M : ℕ → Prop} [DecidablePred M] {b : Fin 8}
    (hd : eexp (d (ix3 0 b 0)) = e 0 0) : Holds e M b (k0_pay70 (F := Ideal), k0_pay69 d, k0_pay71) 0 := by
  refine ⟨fun j => ?_, fun j => ?_, ?_⟩
  · show eexp (k0_pay70 (F := Ideal) (ix2 b j)) = if (j : ℕ) = 0 then 1 else 0
    pointwise [k0_pay70]
    simp only [mask_bot]
    rw [select_eq, show (0#32 : BitVec 32) = BitVec.ofNat 32 0 from rfl]
    simp only [ofNat_inj32 (show (j : ℕ) < 2 ^ 32 by omega) (show 0 < 2 ^ 32 by decide)]
    split_ifs
    · exact eexp_zero
    · exact eexp_bot
  · show eexp (k0_pay69 d (ix2 b j)) = if (j : ℕ) = 0 then e 0 0 else 0
    pointwise [k0_pay69]
    simp only [mask_bot]
    rw [select_eq, show (0#32 : BitVec 32) = BitVec.ofNat 32 0 from rfl]
    simp only [ofNat_inj32 (show (j : ℕ) < 2 ^ 32 by omega) (show 0 < 2 ^ 32 by decide)]
    split_ifs with h
    · obtain rfl : j = 0 := Fin.ext h
      exact hd
    · exact eexp_bot
  · show eexp (k0_pay71 (F := Ideal) (ix2 b 0)) = if 256 = 0 then 1 else 0
    pointwise [k0_pay71]
    simp only [mask_bot]
    exact eexp_bot

/-- The symbols moved by one place, with no path put in front, element by element. -/
theorem pay74_eq (l : FVec Ideal S8x256 .f32) (b : Fin 8) (j : Fin 256) :
    eexp (k0_pay74 l (ix2 b j)) = prev (lane l b) j := by
  pointwise [k0_pay74, k0_pay67]
  simp only [mask_bot]
  exact eexp_shift1 _ _ _ _

/-- The symbols moved by one place and kept where the mask allows a skip, element by element. -/
theorem pay75_eq (l : FVec Ideal S8x256 .f32) (b : Fin 8) (j : Fin 256) :
    eexp (k0_pay75 x3 l (ix2 b j)) = if x3 (ix2 b j) ≠ 0 then prev (lane l b) j else 0 := by
  rw [← pay74_eq]
  generalize hv : k0_pay74 l = v
  unfold k0_pay75
  rw [hv]
  pointwise [k0_pay64]
  simp only [mask_bot]
  exact eexp_ite _ _

variable {x3 x5 st d rs} {e : ℕ → ℕ → ENNReal} {M : ℕ → Prop} [DecidablePred M] {b : Fin 8} {t : ℕ}

/-- The blank state after the last symbol, one step on. -/
theorem end_blank (h : Holds e M b st t) (he : ∀ t j, e t j ≠ ⊤) (n : ℕ) (hn : n < 257)
    (h5 : x5 (ix2 b 0) = BitVec.ofNat 32 n) :
    eexp (k0_pay77 (F := Ideal) (iota Kind.tc S8x256 32 [1] iota_S8x256_d1_w32) (k0_pay66 (F := Ideal) x5) st.1 st.2.1
      st.2.2 (k0_pay74 st.2.1) (ix2 b 0)) = blankW e M (t + 1) n := by
  have hw := weights_ne_top (M := M) he t
  have hv : ∀ j : Fin 256, eexp (k0_pay74 st.2.1 (ix2 b j)) = prev (symW e M t) j := fun j => by
    rw [pay74_eq]; exact prev_congr fun i hi => h.sym i (by omega)
  generalize k0_pay74 st.2.1 = v at hv ⊢
  pointwise [k0_pay77, k0_pay66]
  simp only [mask_bot, max_bot_right]
  rw [h5, sge_256 n hn]
  by_cases hn' : n = 256
  · subst hn'
    rw [decide_eq_true rfl, select_true]
    exact lse2_of h.2.2 (hw.1 _) (h.2.1 255) (hw.2 _)
  · rw [decide_eq_false hn']
    rw [select_false]
    have hn2 : n < 256 := by omega
    refine (congrArg eexp (sum_pick _ ⟨n, hn2⟩)).trans ?_
    exact lse2_of (h.1 ⟨n, hn2⟩) (hw.1 _) (hv ⟨n, hn2⟩) (prev_ne_top hw.2 _)

/-- The state of the last symbol, one step on. -/
theorem end_sym (h : Holds e M b st t) (he : ∀ t j, e t j ≠ ⊤) (n : ℕ) (hn : n < 256)
    (h5 : x5 (ix2 b 0) = BitVec.ofNat 32 (n + 1)) (h3 : ∀ j : Fin 256, x3 (ix2 b j) ≠ 0 ↔ M j)
    (hd : ∀ j : Fin 256, eexp (d (ix3 0 b j)) = e (t + 1) j) :
    eexp (k0_pay78 (F := Ideal) (iota Kind.tc S8x256 32 [1] iota_S8x256_d1_w32) (k0_pay66 (F := Ideal) x5) st.1 st.2.1
      (k0_pay73 d) (k0_pay75 x3 st.2.1) (k0_pay76 st.1 st.2.1) (ix1 b)) = symW e M (t + 1) n := by
  have hw := weights_ne_top (M := M) he t
  have hv : ∀ j : Fin 256, eexp (k0_pay75 x3 st.2.1 (ix2 b j)) = if M j then prev (symW e M t) j else 0 := fun j => by
    rw [pay75_eq, if_congr (h3 j) rfl rfl]
    split_ifs
    · exact prev_congr fun i hi => h.sym i (by omega)
    · rfl
  generalize k0_pay75 x3 st.2.1 = v at hv ⊢
  pointwise [k0_pay78, k0_pay66, k0_pay73, k0_pay76]
  simp only [mask_bot, max_bot_right]
  rw [h5, show IntOp.subi (BitVec.ofNat 32 (n + 1)) 1#32 = BitVec.ofNat 32 n from by
    show BitVec.ofNat 32 (n + 1) - 1#32 = _
    rw [BitVec.ofNat_add, BitVec.add_sub_cancel]]
  refine (congrArg eexp (sum_pick _ ⟨n, hn⟩)).trans ?_
  rw [eexp_add, hd, symW_succ]
  congr 1
  refine lse3_of (h.2.1 ⟨n, hn⟩) (hw.2 _) (h.1 ⟨n, hn⟩) (hw.1 _) (hv ⟨n, hn⟩) ?_
  split_ifs
  · exact prev_ne_top hw.2 _
  · simp

end

/-- The loss the kernel computes is the mean loss of the two ends' weight times the blanks' probability. -/
theorem loss_eq (x3 : Vec Ideal S8x256 .f32) (x5 : Vec Ideal S8x1 .i32)
    (st : FVec Ideal S8x256 .f32 × FVec Ideal S8x256 .f32 × FVec Ideal S8x1 .f32) (d : Vec Ideal S1x8x256 .f32)
    (rs : Vec Ideal S8x1 .f32) (e : Fin 8 → ℕ → ℕ → ENNReal) (M : Fin 8 → ℕ → Prop) [∀ b, DecidablePred (M b)] (n : Fin 8 → ℕ)
    (Z : Fin 8 → ENNReal) (t T : ℕ) (hT : T = t + 1)
    (h : ∀ b, Holds (e b) (M b) b st t) (he : ∀ b t j, e b t j ≠ ⊤) (hn : ∀ b, n b < 256)
    (h5 : ∀ b, x5 (ix2 b 0) = BitVec.ofNat 32 (n b + 1)) (h3 : ∀ b (j : Fin 256), x3 (ix2 b j) ≠ 0 ↔ M b j)
    (hd : ∀ b (j : Fin 256), eexp (d (ix3 0 b j)) = e b T j) (hr : ∀ b, eexp (rs (ix2 b 0)) = Z b) :
    lossOf x3 x5 st d rs (ix2 0 0)
      = meanLoss (fun b => (blankW (e b) (M b) T (n b + 1) + symW (e b) (M b) T (n b)) * Z b)
          (fun b => BitVec.ofNat 32 (n b + 1)) := by
  subst hT
  have hA : ∀ b, _ := fun b => end_blank (x5 := x5) (h b) (he b) (n b + 1) (by have := hn b; omega) (h5 b)
  have hC : ∀ b, _ := fun b => end_sym (x3 := x3) (x5 := x5) (d := d) (h b) (he b) (n b) (hn b) (h5 b) (h3 b) (hd b)
  have h6 : k0_pay66 (F := Ideal) x5 = x5 := by
    funext i
    pointwise [k0_pay66]
  unfold lossOf
  generalize k0_pay77 (F := Ideal) (iota Kind.tc S8x256 32 [1] iota_S8x256_d1_w32) (k0_pay66 (F := Ideal) x5) st.1 st.2.1
      st.2.2 (k0_pay74 st.2.1) = A at hA ⊢
  generalize k0_pay78 (F := Ideal) (iota Kind.tc S8x256 32 [1] iota_S8x256_d1_w32) (k0_pay66 (F := Ideal) x5) st.1 st.2.1
      (k0_pay73 d) (k0_pay75 x3 st.2.1) (k0_pay76 st.1 st.2.1) = C at hC ⊢
  rw [h6]
  pointwise [k0_pay1]
  unfold meanLoss
  congr 1
  refine Finset.sum_congr rfl fun b _ => ?_
  rw [Finset.univ_unique, Finset.sum_singleton, h5]
  have hw := weights_ne_top (M := M b) (he b) (t + 1)
  have key : max (A (ix2 b 0)) (C (ix1 b)) + Ideal.log (Ideal.exp (A (ix2 b 0) - max (A (ix2 b 0)) (C (ix1 b)))
      + Ideal.exp (C (ix1 b) - max (A (ix2 b 0)) (C (ix1 b)))) + rs (ix2 b 0)
      = Ideal.log (((blankW (e b) (M b) (t + 1) (n b + 1) + symW (e b) (M b) (t + 1) (n b)) * Z b : ENNReal) : EReal) := by
    apply eexp_inj
    rw [eexp_log, eexp_add, lse2_of (hA b) (hw.1 _) (hC b) (hw.2 _), hr]
  rw [key]

end Cert.Ctc

end
-- ==== Proof.Block.lean ====
/- The kernel's output block holds the mean loss. -/
module

public import proofs.«01_k».proof.Proof.Tables
public import proofs.«01_k».proof.Proof.Loss

@[expose] public section

set_option maxRecDepth 16384

noncomputable section

namespace Cert.Ctc

open Idealize.ShloMosaic Idealize.ShloMosaic.TcCoe Idealize.ShloMosaic.Tactic
open Cert.KernelIdeal Cert.KernelIdeal.Gen

/-- The indicator as a real number. -/
def indR (a b : BitVec 32) : ℝ := if a = b then 1 else 0

/-- The indicator of two equal words, as a real number. -/
theorem ind_coe (a b : BitVec 32) : ind a b = (indR a b : EReal) := by
  unfold ind indR
  split_ifs <;> norm_num

/-- A finite sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section

variable (D : Data) (x0 : Vec Ideal S2048x8x256 .f32) (hx : ∀ t b k, x0 (ix3 t b k) = (D.lp t b k : EReal)) (tg : IVec S8x256 32)

include hx in
/-- An entry of the table of differences, for real log-probabilities. -/
theorem tableD_real (t : Fin 2048) (b : Fin 8) (j : Fin 256) : tableD x0 tg (ix3 t b j)
    = ((∑ x : Fin 256, D.lp t b x * (indR (tg (ix2 b j)) (BitVec.ofNat 32 x) - indR (BitVec.ofNat 32 x) 0#32) : ℝ) : EReal) := by
  unfold tableD
  rw [← coe_sum]
  refine Finset.sum_congr rfl fun x _ => ?_
  rw [ind_coe, ind_coe, EReal.coe_mul, EReal.coe_sub]
  exact congrArg (· * _) (hx t b x)

/-- A sum against the indicator of one class picks that class's value. -/
theorem sum_indR (f : Fin 256 → ℝ) (k : Fin 256) : ∑ x : Fin 256, f x * indR (BitVec.ofNat 32 k) (BitVec.ofNat 32 x) = f k := by
  rw [Finset.sum_eq_single k]
  · simp [indR]
  · intro x _ hxk
    unfold indR
    rw [if_neg, mul_zero]
    rw [ofNat_inj32 (by omega) (by omega)]
    exact fun h => hxk (Fin.ext h.symm)
  · exact fun h => absurd (Finset.mem_univ _) h

include hx in
/-- An entry of a table of differences. -/
theorem tableD_val (t : Fin 2048) (b : Fin 8) (j k : Fin 256) (h : tg (ix2 b j) = BitVec.ofNat 32 k) :
    tableD x0 tg (ix3 t b j) = ((D.lp t b k - D.lp t b 0 : ℝ) : EReal) := by
  rw [tableD_real D x0 hx, h]
  congr 1
  simp only [mul_sub]
  rw [Finset.sum_sub_distrib, sum_indR]
  congr 1
  refine Eq.trans (Finset.sum_congr rfl fun x _ => ?_) (sum_indR (D.lp t b) 0)
  rw [show indR (BitVec.ofNat 32 x) 0#32 = indR (BitVec.ofNat 32 (0 : Fin 256)) (BitVec.ofNat 32 x) from by
    unfold indR; exact if_congr eq_comm rfl rfl]

include hx in
/-- The first column of the table of sums. -/
theorem tableR_val (b : Fin 8) : eexp (tableR x0 (ix2 b 0)) = ∏ t : Fin 2048, eexp (D.lp t b 0 : EReal) := by
  unfold tableR
  rw [exp_sum]
  exact Finset.prod_congr rfl fun t _ => congrArg eexp (hx t b 0)

end

section

variable (D : Data) (x0 : Vec Ideal S2048x8x256 .f32) (x1 x2 : Vec Ideal S8x256 .i32) (x3 x4 : Vec Ideal S8x256 .f32)
    (h0 : ∀ t b k, x0 (ix3 t b k) = (D.lp t b k : EReal)) (h1 : ∀ b j, x1 (ix2 b j) = BitVec.ofNat 32 (D.tg b j))
    (h2 : ∀ b (i j : Fin 256), (j : ℕ) = i + 1 → x2 (ix2 b j) = x1 (ix2 b i))

include h0 h1 in
/-- The table of differences holds the logarithms of the symbols' relative probabilities. -/
theorem tableD_e (t : Fin 2048) (b : Fin 8) (j : Fin 256) : eexp (tableD x0 x1 (ix3 t b j)) = D.e b t j := by
  rw [tableD_val D x0 h0 x1 t b j (D.tg b j) (h1 b j), D.e_eq]

include h0 h1 h2 in
/-- The shifted table holds those of the symbols one place before. -/
theorem tableS_e (t : Fin 2048) (b : Fin 8) (j : Fin 256) (i : ℕ) (hi : (j : ℕ) = i + 1) :
    eexp (tableD x0 x2 (ix3 t b j)) = D.e b t i := by
  have hi' : i < 256 := by omega
  rw [tableD_val D x0 h0 x2 t b j (D.tg b ⟨i, hi'⟩) ((h2 b ⟨i, hi'⟩ j hi).trans (h1 b ⟨i, hi'⟩)), ← D.e_eq]

include h0 in
/-- No entry of the table is plus infinity. -/
theorem tableD_ne_top (t : Fin 2048) (b : Fin 8) (j : Fin 256) : eexp (tableD x0 x2 (ix3 t b j)) ≠ ⊤ := by
  rw [tableD_real D x0 h0]; exact Data.eexp_real_ne_top _

include h0 h1 in
/-- A row loaded from the table of differences. -/
theorem rowD_e (arg7 : Memref sig .tc .vmem S2048x8x256 .f32) (off : Fin 3 → ℕ) (t : ℕ) (ht : t < 2048) (hoff : off = ![t, 0, 0])
    (hin : ∀ a, off a + S1x8x256.size a ≤ S2048x8x256.size a) (b : Fin 8) (j : Fin 256) :
    eexp (arg7.view.readCov (piecesD x0 x1) (Rect.unit (s := S2048x8x256) off S1x8x256.size hin).toLoadRect (ix3 0 b j)) = D.e b t j := by
  rw [View.readCov_eq_canon', canonD]
  exact (congrArg eexp (row_of (tableD x0 x1) ⟨t, ht⟩ hoff hin b j)).trans (tableD_e D x0 x1 h0 h1 ⟨t, ht⟩ b j)

include h0 in
/-- The column loaded from the table of sums. -/
theorem colR_e (arg9 : Memref sig .tc .vmem S8x256 .f32) (b : Fin 8) : eexp (arg9.view.readCov (piecesR x0)
    (Rect.unit (s := S8x256) ![0, 0] S8x1.size inb_S8x256_S8x1_0_0).toLoadRect (ix2 b 0)) = ∏ t : Fin 2048, eexp (D.lp t b 0 : EReal) := by
  rw [View.readCov_eq_canon', canonR, ← tableR_val D x0 h0]
  refine congrArg (fun i => eexp (tableR x0 i)) ?_
  funext a
  fin_cases a <;> ext <;> simp [Rect.unit, Rect.toLoadRect, LoadRect.idx, ix2]

end

/-- The loss the kernel computes, in terms of the data. -/
theorem loss_data (D : Data) (x3 : Vec Ideal S8x256 .f32) (x5 : Vec Ideal S8x1 .i32)
    (st : FVec Ideal S8x256 .f32 × FVec Ideal S8x256 .f32 × FVec Ideal S8x1 .f32) (d : Vec Ideal S1x8x256 .f32)
    (rs : Vec Ideal S8x1 .f32) (t T : ℕ) (hT : T = t + 1) (h : ∀ b, Holds (D.e b) (D.M b) b st t)
    (h5 : ∀ b, x5 (ix2 b 0) = BitVec.ofNat 32 ((D.last b : ℕ) + 1)) (h3 : ∀ b (j : Fin 256), x3 (ix2 b j) ≠ 0 ↔ D.M b j)
    (hd : ∀ b (j : Fin 256), eexp (d (ix3 0 b j)) = D.e b T j)
    (hr : ∀ b, eexp (rs (ix2 b 0)) = ∏ t : Fin 2048, eexp (D.lp t b 0 : EReal)) :
    lossOf x3 x5 st d rs (ix2 0 0) = meanLoss (D.totalAt T) fun b => BitVec.ofNat 32 ((D.last b : ℕ) + 1) :=
  loss_eq x3 x5 st d rs (fun b => D.e b) (fun b => D.M b) (fun b => (D.last b : ℕ)) (fun b => ∏ t : Fin 2048, eexp (D.lp t b 0 : EReal))
    t T hT h (fun b => D.e_ne_top b) (fun b => (D.last b).isLt) h5 h3 hd hr

/-- The output block after the body holds the mean loss, where the input blocks hold the data, the symbols shifted by one
    position, the mask of allowed skips and that mask shifted by one position. -/
theorem block_loss (D : Data) (c : Dev nD) (arg0 : Memref sig .tc .vmem S2048x8x256 .f32) (harg0 : arg0.IsWhole) (arg1 : Memref sig .tc .vmem S8x256 .i32) (harg1 : arg1.IsWhole) (arg2 : Memref sig .tc .vmem S8x256 .i32) (harg2 : arg2.IsWhole) (arg3 : Memref sig .tc .vmem S8x256 .f32) (harg3 : arg3.IsWhole) (arg4 : Memref sig .tc .vmem S8x256 .f32) (harg4 : arg4.IsWhole) (arg5 : Memref sig .tc .vmem S8x1 .i32) (harg5 : arg5.IsWhole) (arg6 : Memref sig .tc .vmem S1x1 .f32) (harg6 : arg6.IsWhole) (arg7 : Memref sig .tc .vmem S2048x8x256 .f32) (harg7 : arg7.IsWhole) (arg8 : Memref sig .tc .vmem S2048x8x256 .f32) (harg8 : arg8.IsWhole) (arg9 : Memref sig .tc .vmem S8x256 .f32) (harg9 : arg9.IsWhole)
    (x0 : Vec Ideal S2048x8x256 .f32) (x1 : Vec Ideal S8x256 .i32) (x2 : Vec Ideal S8x256 .i32) (x3 : Vec Ideal S8x256 .f32) (x4 : Vec Ideal S8x256 .f32) (x5 : Vec Ideal S8x1 .i32)
    (h0 : ∀ t b k, x0 (ix3 t b k) = (D.lp t b k : EReal)) (h1 : ∀ b j, x1 (ix2 b j) = BitVec.ofNat 32 (D.tg b j))
    (h2 : ∀ b (i j : Fin 256), (j : ℕ) = i + 1 → x2 (ix2 b j) = x1 (ix2 b i))
    (h3 : ∀ b (j : Fin 256), x3 (ix2 b j) ≠ 0 ↔ D.M b j)
    (h4 : ∀ b (i j : Fin 256), (j : ℕ) = i + 1 → x4 (ix2 b j) = x3 (ix2 b i))
    (h5 : ∀ b, x5 (ix2 b 0) = BitVec.ofNat 32 (D.last b + 1)) :
    out0_A_6 (F := Ideal) c arg0 harg0 arg1 harg1 arg2 harg2 arg3 harg3 arg4 harg4 arg5 harg5 arg6 harg6 arg7 harg7 arg8 harg8 arg9 harg9 x0 x1 x2 x3 x4 x5 (ix2 0 0) = D.loss := by
  rw [out_eq]
  have r7 : arg7.view.read (Elt Ideal) (arg7.view.writes (Elt Ideal) arg7.view.junk (piecesD x0 x1)) = tableD x0 x1 := by
    rw [View.read_writes_eq_canon _ _ _ (canonD_cover x0 x1), canonD]
  have r8 : arg8.view.read (Elt Ideal) (arg8.view.writes (Elt Ideal) arg8.view.junk (piecesS x0 x2)) = tableD x0 x2 := by
    rw [View.read_writes_eq_canon _ _ _ (canonS_cover x0 x2), canonS]
  have h4' : ∀ b (j : Fin 256) (i : ℕ), (j : ℕ) = i + 1 → (x4 (ix2 b j) ≠ 0 ↔ D.M b i) := fun b j i hi => by
    have hi' : i < 256 := by omega
    rw [h4 b ⟨i, hi'⟩ j hi]
    exact h3 b ⟨i, hi'⟩
  have hloop := fun b => loop_holds (b := b) Variants.none c none arg0 harg0 arg1 harg1 arg2 harg2 arg3 harg3 arg4 harg4 arg5 harg5 arg6 harg6 arg7 harg7 arg8 harg8 arg9 harg9 x3 x4
    (arg7.view.writes (Elt Ideal) arg7.view.junk (piecesD x0 x1)) (arg8.view.writes (Elt Ideal) arg8.view.junk (piecesS x0 x2)) _ (D.e_ne_top b) (h3 b) (h4' b)
    (fun t j => by rw [r7]; exact tableD_e D x0 x1 h0 h1 t b j) (fun t j i hi => by rw [r8]; exact tableS_e D x0 x1 x2 h0 h1 h2 t b j i hi)
    (fun t j => by rw [r8]; exact tableD_ne_top D x0 x2 h0 t b j) (init_holds _ (rowD_e D x0 x1 h0 h1 arg7 ![0, 0, 0] 0 (by decide) rfl inb_S2048x8x256_S1x8x256_0_0_0 b 0)) 1023 (le_refl _)
  rw [trips_eq]
  unfold Data.loss
  exact loss_data D x3 x5 _ _ _ (2 * 1023) 2047 (by norm_num) hloop h5 h3
    (fun b j => rowD_e D x0 x1 h0 h1 arg7 ![2047, 0, 0] 2047 (by norm_num) rfl inb_S2048x8x256_S1x8x256_2047_0_0 b j)
    (fun b => colR_e D x0 h0 arg9 b)

end Cert.Ctc

end
-- ==== Proof.Entry.lean ====
/- What the kernel's input blocks hold: the arguments, and the arrays the host makes of them before the call. -/
module

public import proofs.«01_k».proof.Proof.Gen.KernelIdeal.Frame
public import proofs.«01_k».proof.Proof.Spec
public import proofs.«01_k».proof.Proof.Block
public import proofs.«01_k».proof.Proof.Bits
public import Idealize.ShloMosaic.Lib.Claim
public import Idealize.ShloMosaic.Lib.Pipeline.ValueKit

@[expose] public section

set_option maxRecDepth 16384

noncomputable section

namespace Cert.Ctc

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The symbols. -/
abbrev symbols : Vec Ideal S8x256 .i32 := m ((c : Thread nD τ).loc main_arg1)

/-- The symbols moved by one place. -/
theorem entry_v2 : V m c main_v2 = concatenate S8x256 1 [⟨S8x1, broadcastInDim S8x1 ![] bcast_S_S8x1 (constantI S_ 32 0#32)⟩,
    ⟨S8x255, extractStridedSlice S8x255 ![0, 0] (symbols m c) slices_S8x256_S8x255_0_0⟩] concatenates_S8x1_S8x255_S8x256_d1 := by
  show StableHlo.after hostOps0 _ _ = _
  after_results

/-- The target lengths as a column. -/
theorem entry_v17 : V m c main_v17 = shapeCast S8x1 (m ((c : Thread nD τ).loc main_arg3)) shapeCasts_S8_S8x1 := by
  show StableHlo.after hostOps0 _ _ = _
  after_results
  rfl

/-- The mask as the host computes it. -/
def maskOf (tg tgp : IVec S8x256 32) : FVec Ideal S8x256 .f32 :=
  uitofp .f32 (andi (andi (broadcastInDim S8x256 ![0, 1] bcast_S1x256_S8x256_0_1
    (cmpi .sge (broadcastInDim S1x256 ![1] bcast_S256_S1x256_1 (iotaInDim S256 32 0)) (broadcastInDim S1x256 ![] bcast_S_S1x256 (constantI S_ 32 1#32))))
    (cmpi .ne tg (broadcastInDim S8x256 ![] bcast_S_S8x256 (constantI S_ 32 0#32)))) (cmpi .ne tg tgp))

/-- The mask of allowed skips. -/
theorem entry_v13 : V m c main_v13 = maskOf (symbols m c) (V m c main_v2) := by
  rw [entry_v2]
  unfold maskOf
  show StableHlo.after hostOps0 _ _ = _
  after_results

/-- The mask moved by one place. -/
theorem entry_v16 : V m c main_v16 = concatenate S8x256 1 [⟨S8x1, broadcastInDim S8x1 ![] bcast_S_S8x1 (constant (F := Ideal) S_ .f32 0x00000000#32)⟩,
    ⟨S8x255, extractStridedSlice S8x255 ![0, 0] (V m c main_v13) slices_S8x256_S8x255_0_0⟩] concatenates_S8x1_S8x255_S8x256_d1 := by
  rw [entry_v13, entry_v2]
  unfold maskOf
  show StableHlo.after hostOps0 _ _ = _
  after_results

/-- Every window's block is its whole array. -/
theorem idx : win0_0.index t0_0 = ![0, 0, 0] ∧ win0_1.index t0_0 = ![0, 0] ∧ win0_2.index t0_0 = ![0, 0]
    ∧ win0_3.index t0_0 = ![0, 0] ∧ win0_4.index t0_0 = ![0, 0] ∧ win0_5.index t0_0 = ![0, 0] := by decide +kernel

/-- The log-probabilities' block is the whole argument. -/
theorem iblk0 (t : Fin 2048) (b : Fin 8) (k : Fin 256) :
    iblk (F := Ideal) m c 0 t0_0 (ix3 t b k) = m ((c : Thread nD τ).loc main_arg0) (ix3 t b k) := by
  blk_point [iblk, V, idx]

/-- The symbols' block is the whole argument. -/
theorem iblk1 (b : Fin 8) (j : Fin 256) : iblk (F := Ideal) m c 1 t0_0 (ix2 b j) = symbols m c (ix2 b j) := by
  blk_point [iblk, V, idx]

/-- The block of the moved symbols is the whole array. -/
theorem iblk2_eq (b : Fin 8) (j : Fin 256) : iblk (F := Ideal) m c 2 t0_0 (ix2 b j) = V m c main_v2 (ix2 b j) := by
  unfold iblk
  refine congrArg (V m c main_v2) ?_
  blk_ext [idx]

/-- The mask's block is the whole array. -/
theorem iblk3_eq (b : Fin 8) (j : Fin 256) : iblk (F := Ideal) m c 3 t0_0 (ix2 b j) = V m c main_v13 (ix2 b j) := by
  unfold iblk
  refine congrArg (V m c main_v13) ?_
  blk_ext [idx]

/-- The block of the moved mask is the whole array. -/
theorem iblk4_eq (b : Fin 8) (j : Fin 256) : iblk (F := Ideal) m c 4 t0_0 (ix2 b j) = V m c main_v16 (ix2 b j) := by
  unfold iblk
  refine congrArg (V m c main_v16) ?_
  blk_ext [idx]

/-- The lengths' block is the whole column. -/
theorem iblk5_eq (b : Fin 8) : iblk (F := Ideal) m c 5 t0_0 (ix2 b 0) = V m c main_v17 (ix2 b 0) := by
  unfold iblk
  refine congrArg (V m c main_v17) ?_
  blk_ext [idx]

/-- The lengths' block holds the argument's lengths. -/
theorem iblk5 (b : Fin 8) : iblk (F := Ideal) m c 5 t0_0 (ix2 b 0) = m ((c : Thread nD τ).loc main_arg3) (ix1 b) := by
  rw [iblk5_eq, entry_v17]
  pointwise

/-- An array's row moved by one position. -/
theorem shifted {α : Type} (x : S8x256.Idx → α) (y : S8x1.Idx → α) (b : Fin 8) (i j : Fin 256) (h : (j : ℕ) = i + 1) :
    concatenate S8x256 1 [⟨S8x1, y⟩, ⟨S8x255, extractStridedSlice S8x255 ![0, 0] x slices_S8x256_S8x255_0_0⟩]
      concatenates_S8x1_S8x255_S8x256_d1 (ix2 b j) = x (ix2 b i) := by
  pointwise
  rw [dif_neg (by omega)]
  congr 2
  ext
  show (j : ℕ) - 1 = i
  omega

/-- The mask of allowed skips. -/
theorem mask_val (D : Data) (tg tgp : IVec S8x256 32) (h1 : ∀ b j, tg (ix2 b j) = BitVec.ofNat 32 (D.tg b j))
    (h2 : ∀ b (i j : Fin 256), (j : ℕ) = i + 1 → tgp (ix2 b j) = tg (ix2 b i)) (b : Fin 8) (j : Fin 256) :
    maskOf tg tgp (ix2 b j) ≠ 0 ↔ D.M b j := by
  have fin_eq : ∀ x y : Fin 256, BitVec.ofNat 32 (x : ℕ) ≠ BitVec.ofNat 32 (y : ℕ) ↔ x ≠ y := fun x y => by
    rw [ne_eq, ofNat_inj32 (by omega) (by omega), ← Fin.ext_iff]
  pointwise [maskOf]
  rw [bit_float, bit_andi, bit_andi, bit_ne, bit_ne, bit_sge j 1 (by omega) (by decide), D.M_fin, h1, and_assoc]
  refine and_congr_right fun hj => and_congr (fin_eq _ 0) ?_
  rw [h2 b ⟨j - 1, by omega⟩ j (by show (j : ℕ) = j - 1 + 1; omega), h1]
  exact fin_eq _ _

variable (D : Data) (hR : Reads D (m ((c : Thread nD τ).loc main_arg0)) (m ((c : Thread nD τ).loc main_arg1)) (m ((c : Thread nD τ).loc main_arg3)))

include hR in
/-- The array the kernel writes holds the mean loss. -/
theorem final : (dats (F := Ideal) m 0 c).arrAt 6 (cfgs 0).N = fun _ => D.loss := by
  refine (dats m 0 c).arrAt_eq_of_after_last 6 t0_0 (by decide +kernel) _ fun j => ?_
  blk_simp
  rw [after0_6]
  unfold outsAt0
  obtain rfl : j = ix2 0 0 := by
    funext a; fin_cases a <;> exact Subsingleton.elim (α := Fin 1) _ _
  have h2 : ∀ b (i j : Fin 256), (j : ℕ) = i + 1 → V m c main_v2 (ix2 b j) = symbols m c (ix2 b i) := fun b i j h => by
    rw [entry_v2]; exact shifted _ _ b i j h
  refine block_loss D c _ _ _ _ _ _ _ _ _ _ _ _ _ _ _ _ _ _ _ _ _ _ _ _ _ _ (fun t b k => (iblk0 m c t b k).trans (hR.lp t b k))
    (fun b j => (iblk1 m c b j).trans (hR.tg b j)) (fun b i j h => ?_) (fun b j => ?_) (fun b i j h => ?_)
    (fun b => (iblk5 m c b).trans (hR.tl b))
  · rw [iblk2_eq, iblk1]; exact h2 b i j h
  · rw [iblk3_eq, entry_v13]; exact mask_val D _ _ hR.tg h2 b j
  · rw [iblk4_eq, iblk3_eq, entry_v16]; exact shifted _ _ b i j h

end Cert.Ctc

end
-- ==== Proof.States.lean ====
/- The weights of the reference's states: blank states at even positions, symbol states at odd ones, each times the blanks'
   probabilities up to its step. -/
module

public import proofs.«01_k».proof.Proof.Spec

@[expose] public section

noncomputable section

namespace Cert.Ctc.Ref

open scoped ENNReal

/-- The class of state `s`: the blank at an even position, a symbol at an odd one. -/
def extN (D : Data) (b : Fin 8) (s : ℕ) : Fin 256 := if h : s < 512 ∧ ¬ s % 2 < 1 then D.tg b ⟨s / 2, by omega⟩ else 0

/-- The weight of state `s` after step `t`. -/
def stateW (D : Data) (b : Fin 8) (t s : ℕ) : ℝ≥0∞ :=
  if s % 2 < 1 then blankW (D.e b) (D.M b) t (s / 2) else symW (D.e b) (D.M b) t (s / 2)

/-- The probability of the blank at step `t`. -/
def zB (D : Data) (b : Fin 8) (t : ℕ) : ℝ≥0∞ := if h : t < 2048 then eexp (D.lp ⟨t, h⟩ b 0 : EReal) else 1

/-- The probability of blanks up to step `t`. -/
def zP (D : Data) (b : Fin 8) (t : ℕ) : ℝ≥0∞ := ∏ r ∈ Finset.range (t + 1), zB D b r

variable (D : Data) (b : Fin 8)

/-- The blanks' product, one step on. -/
theorem zP_succ (t : ℕ) : zP D b (t + 1) = zP D b t * zB D b (t + 1) := Finset.prod_range_succ _ _

/-- The blanks' product at the first step. -/
theorem zP_zero : zP D b 0 = zB D b 0 := by simp [zP]

/-- The blanks' product over all steps. -/
theorem zP_last : zP D b 2047 = ∏ t : Fin 2048, eexp (D.lp t b 0 : EReal) := by
  unfold zP
  rw [Finset.prod_range]
  refine Finset.prod_congr rfl fun t _ => ?_
  unfold zB
  rw [dif_pos t.isLt]

/-- The blank's probability at a step. -/
theorem zB_fin (t : Fin 2048) : zB D b t = eexp (D.lp t b 0 : EReal) := by
  unfold zB
  rw [dif_pos t.isLt]

/-- An even state emits the blank. -/
theorem emit_even (t : Fin 2048) (s : ℕ) (hs : s % 2 < 1) : eexp (D.lp t b (extN D b s) : EReal) = zB D b t := by
  rw [extN, dif_neg (fun h => h.2 hs), zB_fin]

/-- An odd state emits its symbol. -/
theorem emit_odd (t : Fin 2048) (s : ℕ) (hs : ¬ s % 2 < 1) (h : s < 513) :
    eexp (D.lp t b (extN D b s) : EReal) = D.e b t (s / 2) * zB D b t := by
  have h2 : s < 512 := by omega
  rw [extN, dif_pos ⟨h2, hs⟩, zB_fin, show D.e b t (s / 2) = _ from D.e_eq b t ⟨s / 2, by omega⟩, ← eexp_add, ← EReal.coe_add]
  congr 2
  ring

/-- The first step. -/
theorem state_zero (s : ℕ) (h : s < 513) :
    stateW D b 0 s * zP D b 0 = if s < 2 then eexp (D.lp 0 b (extN D b s) : EReal) else 0 := by
  rw [zP_zero]
  unfold stateW
  by_cases hs : s % 2 < 1
  · rw [if_pos hs, show blankW (D.e b) (D.M b) 0 (s / 2) = if s / 2 = 0 then 1 else 0 from rfl]
    by_cases h2 : s < 2
    · rw [if_pos (by omega), if_pos h2, emit_even D b 0 s hs, one_mul]; rfl
    · rw [if_neg (by omega), if_neg h2, zero_mul]
  · rw [if_neg hs, show symW (D.e b) (D.M b) 0 (s / 2) = if s / 2 = 0 then D.e b 0 0 else 0 from rfl]
    by_cases h2 : s < 2
    · rw [if_pos (by omega), if_pos h2, emit_odd D b 0 s hs h, show s / 2 = 0 by omega]; rfl
    · rw [if_neg (by omega), if_neg h2, zero_mul]

/-- One step. -/
theorem state_succ (t s : ℕ) (ht : t + 1 < 2048) (h : s < 513) :
    stateW D b (t + 1) s * zP D b (t + 1)
      = (stateW D b t s * zP D b t + (if s < 1 then 0 else stateW D b t (s - 1) * zP D b t)
          + (if ¬ s % 2 < 1 ∧ D.M b (s / 2) then (if s < 2 then 0 else stateW D b t (s - 2) * zP D b t) else 0))
        * eexp (D.lp ⟨t + 1, ht⟩ b (extN D b s) : EReal) := by
  rw [zP_succ]
  by_cases hs : s % 2 < 1
  · rw [emit_even D b ⟨t + 1, ht⟩ s hs, if_neg (show ¬(¬ s % 2 < 1 ∧ D.M b (s / 2)) from fun k => k.1 hs), add_zero]
    change _ = _ * zB D b (t + 1)
    obtain ⟨j, rfl⟩ : ∃ j, s = 2 * j := ⟨s / 2, by omega⟩
    have e1 : stateW D b (t + 1) (2 * j) = blankW (D.e b) (D.M b) t j + prev (symW (D.e b) (D.M b) t) j := by
      rw [stateW, if_pos hs, show 2 * j / 2 = j by omega, blankW_succ]
    have e2 : stateW D b t (2 * j) = blankW (D.e b) (D.M b) t j := by
      rw [stateW, if_pos hs, show 2 * j / 2 = j by omega]
    rw [e1, e2]
    cases j with
    | zero => rw [prev_zero, if_pos (by omega)]; ring
    | succ i =>
      have e3 : stateW D b t (2 * (i + 1) - 1) = symW (D.e b) (D.M b) t i := by
        rw [stateW, if_neg (by omega), show (2 * (i + 1) - 1) / 2 = i by omega]
      rw [prev_succ, if_neg (by omega), e3]; ring
  · rw [emit_odd D b ⟨t + 1, ht⟩ s hs h]
    change _ = _ * (D.e b (t + 1) (s / 2) * zB D b (t + 1))
    obtain ⟨j, rfl⟩ : ∃ j, s = 2 * j + 1 := ⟨s / 2, by omega⟩
    have e1 : stateW D b (t + 1) (2 * j + 1) = (symW (D.e b) (D.M b) t j + blankW (D.e b) (D.M b) t j
        + if D.M b j then prev (symW (D.e b) (D.M b) t) j else 0) * D.e b (t + 1) j := by
      rw [stateW, if_neg hs, show (2 * j + 1) / 2 = j by omega, symW_succ]
    have e2 : stateW D b t (2 * j + 1) = symW (D.e b) (D.M b) t j := by
      rw [stateW, if_neg hs, show (2 * j + 1) / 2 = j by omega]
    have e3 : stateW D b t (2 * j + 1 - 1) = blankW (D.e b) (D.M b) t j := by
      rw [stateW, if_pos (by omega), show (2 * j + 1 - 1) / 2 = j by omega]
    rw [e1, e2, if_neg (show ¬ 2 * j + 1 < 1 by omega), e3, show (2 * j + 1) / 2 = j by omega]
    by_cases hM : D.M b j
    · rw [if_pos hM, if_pos ⟨hs, hM⟩]
      obtain ⟨_, hj, _⟩ := hM
      obtain ⟨i, rfl⟩ : ∃ i, j = i + 1 := ⟨j - 1, by omega⟩
      have e4 : stateW D b t (2 * (i + 1) + 1 - 2) = symW (D.e b) (D.M b) t i := by
        rw [stateW, if_neg (by omega), show (2 * (i + 1) + 1 - 2) / 2 = i by omega]
      rw [prev_succ, if_neg (by omega), e4]; ring
    · rw [if_neg hM, if_neg (fun k => hM k.2)]; ring

/-- The blanks' product is finite. -/
theorem zP_ne_top (t : ℕ) : zP D b t ≠ ⊤ := by
  refine ENNReal.prod_ne_top fun r _ => ?_
  unfold zB
  split_ifs
  · exact Data.eexp_real_ne_top _
  · exact ENNReal.one_ne_top

/-- The states' weights are finite. -/
theorem state_ne_top (t s : ℕ) : stateW D b t s * zP D b t ≠ ⊤ := by
  refine ENNReal.mul_ne_top ?_ (zP_ne_top D b t)
  unfold stateW
  split_ifs
  · exact (weights_ne_top (D.e_ne_top b) t).1 _
  · exact (weights_ne_top (D.e_ne_top b) t).2 _

end Cert.Ctc.Ref

end
-- ==== Proof.RefPre.lean ====
/- What the reference computes before its loop: the symbols with blanks between, the gathered log-probabilities, the mask of
   allowed skips and the first row of log-weights. -/
module

public import proofs.«01_k».proof.Proof.Gen.ReferenceIdeal.Run
public import proofs.«01_k».proof.Proof.Bits
public import proofs.«01_k».proof.Proof.States
public import Idealize.ShloMosaic.Lib.Claim
public import Idealize.ShloMosaic.Lib.ReduceAll

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- The symbols with blanks between. -/
def extOf (tg : IVec S8x256 32) : IVec S8x513 32 :=
  concatenate S8x513 1 [⟨S8x512, shapeCast S8x512 (concatenate S8x256x2 2
      [⟨S8x256x1, broadcastInDim S8x256x1 ![0, 1] bcast_S8x256_S8x256x1_0_1 (broadcastInDim S8x256 ![] bcast_S_S8x256 (constantI S_ 32 0#32))⟩,
       ⟨S8x256x1, broadcastInDim S8x256x1 ![0, 1] bcast_S8x256_S8x256x1_0_1 tg⟩] concatenates_S8x256x1_S8x256x1_S8x256x2_d2) shapeCasts_S8x256x2_S8x512⟩,
    ⟨S8x1, broadcastInDim S8x1 ![] bcast_S_S8x1 (constantI S_ 32 0#32)⟩] concatenates_S8x512_S8x1_S8x513_d1

/-- The symbols, one copy per step. -/
def rowsOf (ext : IVec S8x513 32) : IVec S2048x8x513 32 :=
  broadcastInDim S2048x8x513 ![0, 1, 2] bcast_S1x8x513_S2048x8x513_0_1_2 (broadcastInDim S1x8x513 ![1, 2] bcast_S8x513_S1x8x513_1_2 ext)

/-- The class indices as the gather takes them. -/
def classOf (r : IVec S2048x8x513 32) : IVec S2048x8x513x1 32 :=
  shapeCast S2048x8x513x1 (select (cmpi .slt r (broadcastInDim S2048x8x513 ![] bcast_S_S2048x8x513 (constantI S_ 32 0#32)))
    (addi r (broadcastInDim S2048x8x513 ![] bcast_S_S2048x8x513 (constantI S_ 32 256#32))) r) shapeCasts_S2048x8x513_S2048x8x513x1

/-- Whether a class index is in range. -/
def validOf (k : IVec S2048x8x513x1 32) : IVec S2048x8x513 1 :=
  Host.reduce IntOp.andi (andi (cmpi .sge k (broadcastInDim S2048x8x513x1 ![] bcast_S_S2048x8x513x1 (constantI S_ 32 0#32)))
    (cmpi .sle k (broadcastInDim S2048x8x513x1 ![0, 1, 2, 3] bcast_S1x1x1x1_S2048x8x513x1_0_1_2_3
      (broadcastInDim S1x1x1x1 ![3] bcast_S1_S1x1x1x1_3 (constantI S1 32 255#32))))) (constantI S_ 1 1#1)
    reducesTo_S2048x8x513x1_S2048x8x513_d3 h_S_

/-- The gathered log-probabilities. -/
def gatherOf (lp : FVec Ideal S2048x8x256 .f32) (r : IVec S2048x8x513 32) : FVec Ideal S2048x8x513 .f32 :=
  select (validOf (classOf r)) (Host.gather gather_S2048x8x256_S2048x8x513x1_S2048x8x513_n_2_01_01_2_3_111 lp (classOf r))
    (broadcastInDim S2048x8x513 ![] bcast_S_S2048x8x513 (constant S_ .f32 0x7FC00000#32))

/-- The mask of allowed skips. -/
def skipOf (ext : IVec S8x513 32) : IVec S8x513 1 :=
  andi (andi (broadcastInDim S8x513 ![0, 1] bcast_S1x513_S8x513_0_1
      (cmpi .sge (broadcastInDim S1x513 ![1] bcast_S513_S1x513_1 (iotaInDim S513 32 0)) (broadcastInDim S1x513 ![] bcast_S_S1x513 (constantI S_ 32 2#32))))
    (cmpi .ne ext (broadcastInDim S8x513 ![] bcast_S_S8x513 (constantI S_ 32 0#32))))
    (cmpi .ne ext (concatenate S8x513 1 [⟨S8x2, broadcastInDim S8x2 ![] bcast_S_S8x2 (constantI S_ 32 0#32)⟩,
      ⟨S8x511, extractStridedSlice S8x511 ![0, 0] ext slices_S8x513_S8x511_0_0⟩] concatenates_S8x2_S8x511_S8x513_d1))

/-- The first row of log-weights. -/
def firstOf (g : FVec Ideal S2048x8x513 .f32) : FVec Ideal S8x513 .f32 :=
  select (broadcastInDim S8x513 ![0, 1] bcast_S1x513_S8x513_0_1
      (cmpi .slt (broadcastInDim S1x513 ![1] bcast_S513_S1x513_1 (iotaInDim S513 32 0)) (broadcastInDim S1x513 ![] bcast_S_S1x513 (constantI S_ 32 2#32))))
    (shapeCast S8x513 (extractStridedSlice S1x8x513 ![0, 0, 0] g slices_S2048x8x513_S1x8x513_0_0_0) shapeCasts_S1x8x513_S8x513)
    (broadcastInDim S8x513 ![] bcast_S_S8x513 (id (constant S_ .f32 0xFF800000#32)))

section

variable (V : Valuation τ sig (Elt Ideal))

/-- The symbols with blanks between, after the first stretch. -/
theorem pre0_v6 : after hostOps0 V (Proc.devRef .tc main_v6) = extOf (V (Proc.devRef .tc main_arg1)) := by
  after_results
  rfl

/-- Their copies, one per step. -/
theorem pre0_v8 : after hostOps0 V (Proc.devRef .tc main_v8) = rowsOf (extOf (V (Proc.devRef .tc main_arg1))) := by
  after_results
  rfl

/-- The gathered log-probabilities. -/
theorem pre1_v9 : after hostOps0_1 V (Proc.devRef .tc main_v9) = gatherOf (V (Proc.devRef .tc main_arg0)) (V (Proc.devRef .tc main_v8)) := by
  after_results
  simp -implicitDefEqProofs only [StableHlo.TRef.toBuf, StableHlo.TRef.ofBuf, cast_cast, cast_eq]
  unfold gatherOf validOf classOf
  rfl

/-- The allowed skips. -/
theorem pre2_v22 : after hostOps0_2 V (Proc.devRef .tc main_v22) = skipOf (V (Proc.devRef .tc main_v6)) := by
  after_results
  rfl

/-- Which states are among the first two. -/
theorem pre2_v26 : after hostOps0_2 V (Proc.devRef .tc main_v26) = cmpi .slt
    (broadcastInDim S1x513 ![1] bcast_S513_S1x513_1 (iotaInDim S513 32 0)) (broadcastInDim S1x513 ![] bcast_S_S1x513 (constantI S_ 32 2#32)) := by
  after_results

/-- The first step's log-probabilities. -/
theorem pre2_v28 : after hostOps0_2 V (Proc.devRef .tc main_v28) = shapeCast S8x513
    (extractStridedSlice S1x8x513 ![0, 0, 0] (V (Proc.devRef .tc main_v9)) slices_S2048x8x513_S1x8x513_0_0_0) shapeCasts_S1x8x513_S8x513 := by
  after_results
  rfl

/-- The constant minus infinity. -/
theorem pre2_cst : after hostOps0_2 V (Proc.devRef .tc main_cst) = constant (F := Ideal) S_ .f32 0xFF800000#32 := by
  after_results

/-- The first log-weights: the first step's where a path may start, minus infinity elsewhere. -/
theorem pre3_v29 : after hostOps0_3 V (Proc.devRef .tc main_v29) = select
      (broadcastInDim S8x513 ![0, 1] bcast_S1x513_S8x513_0_1 (V (Proc.devRef .tc main_v26))) (V (Proc.devRef .tc main_v28))
      (broadcastInDim S8x513 ![] bcast_S_S8x513 (id (V (Proc.devRef .tc main_cst)))) := by
  after_results
  rfl

end

section

variable {D : Data} {lp : FVec Ideal S2048x8x256 .f32} {tg : IVec S8x256 32} {tl : IVec S8 32} (hR : Reads D lp tg tl)

include hR

/-- A symbol with blanks between, element by element. -/
theorem ext_val (b : Fin 8) (s : Fin 513) : extOf tg (ix2 b s) = BitVec.ofNat 32 (extN D b s) := by
  pointwise [extOf]
  unfold extN
  by_cases h1 : (s : ℕ) < 512
  · by_cases h2 : (s : ℕ) % 2 < 1
    · rw [dif_pos h1, dif_pos h2, dif_neg (fun h => h.2 h2)]; rfl
    · rw [dif_pos h1, dif_neg h2, dif_pos ⟨h1, h2⟩, hR.tg]
  · rw [dif_neg h1, dif_neg (fun h => h1 h.1)]; rfl

/-- The class index the gather takes. -/
theorem class_val (t : Fin 2048) (b : Fin 8) (s : Fin 513) (z : Fin 1) :
    classOf (rowsOf (extOf tg)) (ix4 t b s z) = BitVec.ofNat 32 (extN D b s) := by
  have h := ext_val hR b s
  generalize extOf tg = x at h
  have hl := (extN D b s).isLt
  pointwise [classOf, rowsOf]
  rw [h, bit_select, if_neg]
  rw [bit_slt _ 0 (by omega) (by omega)]
  omega

end

/-- A class index below 256 is in range. -/
theorem valid_val (k : IVec S2048x8x513x1 32) (t : Fin 2048) (b : Fin 8) (s : Fin 513) (n : ℕ) (hn : n < 256)
    (hk : ∀ z, k (ix4 t b s z) = BitVec.ofNat 32 n) : validOf k (ix3 t b s) = 1#1 := by
  pointwise [validOf]
  rw [show (Finset.univ : Finset (Fin 1)) = {0} from rfl, Finset.fold_singleton, hk, bit_andi, bit_andi]
  refine ⟨⟨(bit_sge n 0 (by omega) (by omega)).mpr (by omega), ?_⟩, rfl⟩
  show BitVec.ofBool ((BitVec.ofNat 32 n).sle (BitVec.ofNat 32 255)) = 1#1
  have h1 : (BitVec.ofNat 32 n).toInt = n := toInt_small _ (by omega)
  have h2 : (BitVec.ofNat 32 255).toInt = (255 : ℕ) := toInt_small _ (by omega)
  rw [BitVec.sle, h1, h2, decide_eq_true (by omega)]
  rfl

/-- The dimensions of the gather of log-probabilities. -/
abbrev gd : GatherDims S2048x8x256 S2048x8x513x1 S2048x8x513 := gather_S2048x8x256_S2048x8x513x1_S2048x8x513_n_2_01_01_2_3_111

/-- The gather reads the log-probability of the class it is given. -/
theorem take_val (lp : FVec Ideal S2048x8x256 .f32) (k : IVec S2048x8x513x1 32) (t : Fin 2048) (b : Fin 8) (s : Fin 513)
    (n : Fin 256) (hk : ∀ z, k (ix4 t b s z) = BitVec.ofNat 32 n) :
    Host.gather gather_S2048x8x256_S2048x8x513x1_S2048x8x513_n_2_01_01_2_3_111 lp k (ix3 t b s) = lp (ix3 t b n) := by
  unfold Host.gather
  congr 1
  funext a
  apply Fin.ext
  show GatherDims.start gd (ix3 t b s) k a + GatherDims.batchCoord gd (ix3 t b s) a + GatherDims.offCoord gd (ix3 t b s) a = _
  have h0 : GatherDims.offCoord gd (ix3 t b s) a = 0 := by
    refine GatherDims.offCoord_eq_zero _ _ _ (fun h => ?_)
    rw [GatherDims.mem_sKept] at h
    revert a
    decide
  rw [h0, Nat.add_zero]
  match a with
  | ⟨0, h⟩ =>
    have hm : (⟨0, h⟩ : Fin (Shape.rank S2048x8x256)) ∈ gd.operandBatchingDims := (show (0 : Fin 3) ∈ [(0 : Fin 3), 1] by decide)
    rw [GatherDims.start_batching _ _ _ _ hm, GatherDims.batchCoord,
      dif_pos hm, Nat.zero_add]
    rfl
  | ⟨1, h⟩ =>
    have hm : (⟨1, h⟩ : Fin (Shape.rank S2048x8x256)) ∈ gd.operandBatchingDims := (show (1 : Fin 3) ∈ [(0 : Fin 3), 1] by decide)
    rw [GatherDims.start_batching _ _ _ _ hm, GatherDims.batchCoord,
      dif_pos hm, Nat.zero_add]
    rfl
  | ⟨2, h⟩ =>
    have hm : (⟨2, h⟩ : Fin (Shape.rank S2048x8x256)) ∈ gd.startIndexMap := (show (2 : Fin 3) ∈ [(2 : Fin 3)] by decide)
    rw [GatherDims.batchCoord_eq_zero _ _ _ (show (2 : Fin 3) ∉ [(0 : Fin 3), 1] by decide), GatherDims.start,
      dif_pos hm, Nat.add_zero]
    have hsi : ∀ z, GatherDims.siIdx gd (ix3 t b s) z = ix4 t b s 0 := by
      intro z
      have hz : (z : ℕ) = 0 := by have := z.isLt; change (z : ℕ) < 1 at this; omega
      funext b; apply Fin.ext
      match b with
      | ⟨0, _⟩ => rfl
      | ⟨1, _⟩ => rfl
      | ⟨2, _⟩ => rfl
      | ⟨3, _⟩ => exact hz
    rw [hsi, hk, toInt_small _ (by omega)]
    show min (n : ℕ) (256 - 1) = n
    omega

/-- The first log-weights, element by element. -/
theorem first_val (g : FVec Ideal S2048x8x513 .f32) (b : Fin 8) (s : Fin 513) :
    firstOf g (ix2 b s) = if (s : ℕ) < 2 then g (ix3 0 b s) else ⊥ := by
  pointwise [firstOf]
  rw [bit_select]
  have : (IntOp.cmpi CmpIPredicate.slt (BitVec.ofNat 32 s) 2#32 = 1#1) ↔ (s : ℕ) < 2 := bit_slt _ 2 (by omega) (by omega)
  refine if_congr this rfl ?_
  exact bits_bot

section

variable {D : Data} {lp : FVec Ideal S2048x8x256 .f32} {tg : IVec S8x256 32} {tl : IVec S8 32} (hR : Reads D lp tg tl)

include hR

/-- The gathered log-probability of a state at a step. -/
theorem gather_val (t : Fin 2048) (b : Fin 8) (s : Fin 513) :
    gatherOf lp (rowsOf (extOf tg)) (ix3 t b s) = (D.lp t b (extN D b s) : EReal) := by
  have h := class_val hR t b s
  unfold gatherOf
  generalize classOf (rowsOf (extOf tg)) = k at h
  have h1 := valid_val k t b s _ (extN D b s).isLt h
  have h2 := take_val lp k t b s _ h
  generalize validOf k = v at h1
  generalize Host.gather gather_S2048x8x256_S2048x8x513x1_S2048x8x513_n_2_01_01_2_3_111 lp k = y at h2
  pointwise
  rw [bit_select, if_pos h1, h2, hR.lp]

/-- Two classes differ where their words do. -/
theorem ofNat_ne (x y : Fin 256) : BitVec.ofNat 32 x ≠ BitVec.ofNat 32 y ↔ x ≠ y := by
  refine not_congr ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this

/-- A skip is allowed to a symbol that is no blank and differs from the symbol before. -/
theorem skip_val (b : Fin 8) (s : Fin 513) : skipOf (extOf tg) (ix2 b s) = 1#1 ↔ ¬ (s : ℕ) % 2 < 1 ∧ D.M b (s / 2) := by
  have h := ext_val hR b
  generalize extOf tg = x at h
  pointwise [skipOf]
  rw [bit_andi, bit_andi, bit_sge _ 2 (by omega) (by omega), bit_ne, bit_ne, h]
  by_cases h2 : (s : ℕ) < 2
  · refine iff_of_false (fun k => by omega) (fun k => ?_)
    obtain ⟨_, _, k, _⟩ := k
    omega
  rw [dif_neg h2, h, show (0#32) = BitVec.ofNat 32 ((0 : Fin 256) : ℕ) from rfl, ofNat_ne hR, ofNat_ne hR]
  show (_ ∧ _) ∧ extN D b s ≠ extN D b (s - 2) ↔ _
  by_cases h3 : (s : ℕ) % 2 < 1
  · refine iff_of_false (fun k => k.1.2 ?_) (fun k => k.1 h3)
    rw [extN, dif_neg (fun h => h.2 h3)]
  have e1 : extN D b s = D.tg b ⟨s / 2, by omega⟩ := by rw [extN, dif_pos ⟨by omega, h3⟩]
  have e2 : extN D b (s - 2) = D.tg b ⟨s / 2 - 1, by omega⟩ := by
    rw [extN, dif_pos ⟨by omega, by omega⟩]
    congr 2; omega
  rw [e1, e2]
  have := D.M_fin b ⟨s / 2, by omega⟩
  rw [show (D.M b (s / 2) ↔ _) from this]
  refine ⟨fun k => ⟨h3, ?_, k.1.2, k.2⟩, fun k => ⟨⟨by omega, k.2.2.1⟩, k.2.2.2⟩⟩
  show 1 ≤ (s : ℕ) / 2
  omega

end

end Cert.Ctc.Ref

end
-- ==== Proof.RefStep.lean ====
/- One trip of the reference's loop: the log-weights of the states after a step from those before it. -/
module

public import proofs.«01_k».proof.Proof.Gen.ReferenceIdeal.Run
public import proofs.«01_k».proof.Proof.Bits
public import proofs.«01_k».proof.Proof.LogSum
public import Idealize.ShloMosaic.Lib.Claim

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- The three predecessors of a state, stacked. -/
def stack (a : FVec Ideal S8x513 .f32) (q : IVec S8x513 1) (k : Fin 3) (b : Fin 8) (s : Fin 513) : EReal :=
  if (k : ℕ) < 1 then a (ix2 b s)
  else if (k : ℕ) - 1 < 1 then if h : (s : ℕ) < 1 then ⊥ else a (ix2 b ⟨s - 1, by omega⟩)
  else if q (ix2 b s) = 1#1 then if h : (s : ℕ) < 2 then ⊥ else a (ix2 b ⟨s - 2, by omega⟩) else ⊥

/-- No entry of the stack is plus infinity if no log-weight is. -/
theorem stack_ne_top (a : FVec Ideal S8x513 .f32) (q : IVec S8x513 1) (ha : ∀ b s, a (ix2 b s) ≠ ⊤) (k : Fin 3) (b : Fin 8) (s : Fin 513) :
    stack a q k b s ≠ ⊤ := by
  unfold stack
  split_ifs
  all_goals first | exact ha _ _ | exact bot_ne_top

/-- The constant minus infinity. -/
theorem konst_bot (i : S_.Idx) : id (constant (F := Ideal) S_ .f32 0xFF800000#32) i = (⊥ : EReal) := bits_bot

/-- The constant zero. -/
theorem konst_zero (i : S_.Idx) : id (constant (F := Ideal) S_ .f32 0#32) i = (0 : EReal) := Ideal.ofBits_zero_f32

/-- Where the slice of a trip starts. -/
abbrev offs (k : ℕ) (a : Fin 3) : ℕ := Host.clampedStart S2047x8x513 S1x8x513 rfl
  (fun j => BitVec.toInt ((![fun _ => BitVec.ofNat 32 k, constantI S_ 32 0#32, constantI S_ 32 0#32] : Fin 3 → IVec S_ 32) j (Shape.Idx.first h_S_))) a

/-- Trip `k` reads row `k`. -/
theorem offs_0 (k : ℕ) (hk : k < 2047) : offs k 0 = k :=
  Host.clampedStart_of_le _ _ _ _ (toInt_small k (by omega)) (show k + 1 ≤ 2047 by omega)

/-- It reads from the first batch row. -/
theorem offs_1 (k : ℕ) : offs k 1 = 0 := Host.clampedStart_of_le _ _ _ _ rfl (show 0 + 8 ≤ 8 by omega)

/-- It reads from the first state. -/
theorem offs_2 (k : ℕ) : offs k 2 = 0 := Host.clampedStart_of_le _ _ _ _ rfl (show 0 + 513 ≤ 513 by omega)

/-- Indices with equal coordinates are equal. -/
theorem ix3_of {n0 n1 n2 : ℕ} {x x' : Fin n0} {y y' : Fin n1} {z z' : Fin n2} (h0 : (x : ℕ) = x') (h1 : (y : ℕ) = y') (h2 : (z : ℕ) = z') :
    ix3 x y z = ix3 x' y' z' := by
  rw [Fin.ext h0, Fin.ext h1, Fin.ext h2]

section

variable (V : Valuation τ sig (Elt Ideal))

/-- The stacked predecessors, their maximum and the new log-weight, as the trip computes them. -/
def stk (k : Fin 3) (b : Fin 8) (s : Fin 513) : EReal := (res_main_while0b_v119 V : FVec Ideal S3x8x513 .f32) (ix3 k b s)
@[inherit_doc stk] def top (b : Fin 8) (s : Fin 513) : EReal := (res_main_while0b_v120 V : FVec Ideal S8x513 .f32) (ix2 b s)
@[inherit_doc stk] def out (b : Fin 8) (s : Fin 513) : EReal := (res_main_while0b_v131 V : FVec Ideal S8x513 .f32) (ix2 b s)

/-- The stack of the three ways into a state. -/
theorem stack_val (b : Fin 8) (s : Fin 513) (k : Fin 3) : stk V k b s
    = stack (V (Proc.devRef .tc main_v32_3)) (V (Proc.devRef .tc main_v32_1)) k b s := by
  unfold stk res_main_while0b_v119 stack
  generalize V (Proc.devRef .tc main_v32_3) = a
  generalize V (Proc.devRef .tc main_v32_1) = q
  pointwise
  rw [konst_bot, bits_bot, bit_select]
  rfl

/-- The maximum over three is the supremum of finite things. -/
theorem fold_ne_top (a : FVec Ideal S3x8x513 .f32) (b : Fin 8) (s : Fin 513) (h : ∀ k, a (ix3 k b s) ≠ (⊤ : EReal)) :
    Host.reduce FloatOps.maximumf a (constant S_ .f32 0xFF800000#32) reducesTo_S3x8x513_S8x513_d0 h_S_ (ix2 b s) ≠ (⊤ : EReal) := by
  pointwise
  rw [← lt_top_iff_ne_top, Finset.fold_max_lt, bits_bot]
  exact ⟨bot_lt_top, fun x _ => lt_top_iff_ne_top.mpr (h x)⟩

/-- Their maximum is not plus infinity. -/
theorem max_val (b : Fin 8) (s : Fin 513) (h : ∀ k, stk V k b s ≠ ⊤) : top V b s ≠ ⊤ := by
  unfold top res_main_while0b_v120
  exact fold_ne_top _ b s h

/-- The new log-weight, from the stack and the guarded maximum. -/
theorem new_val (b : Fin 8) (s : Fin 513) (k : ℕ) (hk : k < 2047) (hc : V (Proc.devRef .tc main_v32_2) = fun _ => BitVec.ofNat 32 k) :
    out V b s = guarded (top V b s) + Ideal.log (∑ x : Fin 3, Ideal.exp (stk V x b s - guarded (top V b s)))
        + (V (Proc.devRef .tc main_v32_0) : FVec Ideal S2047x8x513 .f32) (ix3 ⟨k, hk⟩ b s) := by
  unfold out top stk res_main_while0b_v131 res_main_while0b_v123
  generalize res_main_while0b_v119 V = a
  generalize res_main_while0b_v120 V = q
  generalize V (Proc.devRef .tc main_v32_0) = d
  rw [hc]
  pointwise
  rw [konst_zero, bits_bot]
  unfold guarded
  congr 2
  refine ix3_of (offs_0 k hk) ?_ ?_
  · exact (congrArg (· + (b : ℕ)) (offs_1 k)).trans (Nat.zero_add _)
  · exact (congrArg (· + (s : ℕ)) (offs_2 k)).trans (Nat.zero_add _)

/-- The row written by a trip, read back. -/
theorem upd_val (a : FVec Ideal S2047x8x513 .f32) (u : FVec Ideal S8x513 .f32) (c : IVec S_ 32) (b : Fin 8) (s : Fin 513) (k : ℕ) (hk : k < 2047)
    (hc : c = fun _ => BitVec.ofNat 32 k) :
    Host.dynamicUpdateSlice a (broadcastInDim S1x8x513 ![1, 2] bcast_S8x513_S1x8x513_1_2 u)
      (fun k => ((![c, constantI S_ 32 0#32, constantI S_ 32 0#32] : Fin 3 → IVec S_ 32) k (Shape.Idx.first h_S_)).toInt)
      updateFits_S2047x8x513_S1x8x513 (ix3 ⟨k, hk⟩ b s) = u (ix2 b s) := by
  subst hc
  pointwise
  refine (dif_pos ?_).trans (congrArg u ?_)
  · exact ⟨⟨(offs_0 k hk).le, Nat.lt_succ_of_le (offs_0 k hk).ge⟩, (offs_1 k).le.trans (Nat.zero_le _), (offs_2 k).le.trans (Nat.zero_le _)⟩
  · refine congrArg₂ ix2 (Fin.ext ?_) (Fin.ext ?_)
    · exact (congrArg ((b : ℕ) - ·) (offs_1 k)).trans (Nat.sub_zero _)
    · exact (congrArg ((s : ℕ) - ·) (offs_2 k)).trans (Nat.sub_zero _)

/-- A trip adds the weights of the three predecessors and multiplies by the emitted probability. -/
theorem trip_val (k : ℕ) (hk : k < 2047) (hc : V (Proc.devRef .tc main_v32_2) = fun _ => BitVec.ofNat 32 k)
    (ha : ∀ b s, (V (Proc.devRef .tc main_v32_3) : FVec Ideal S8x513 .f32) (ix2 b s) ≠ (⊤ : EReal)) (b : Fin 8) (s : Fin 513) :
    eexp (out V b s) = (eexp (stack (V (Proc.devRef .tc main_v32_3)) (V (Proc.devRef .tc main_v32_1)) 0 b s)
        + eexp (stack (V (Proc.devRef .tc main_v32_3)) (V (Proc.devRef .tc main_v32_1)) 1 b s)
        + eexp (stack (V (Proc.devRef .tc main_v32_3)) (V (Proc.devRef .tc main_v32_1)) 2 b s))
      * eexp ((V (Proc.devRef .tc main_v32_0) : FVec Ideal S2047x8x513 .f32) (ix3 ⟨k, hk⟩ b s)) := by
  have hm : top V b s ≠ ⊤ := max_val V b s fun x => by rw [stack_val]; exact stack_ne_top _ _ ha x b s
  rw [new_val V b s k hk hc, eexp_add, Fin.sum_univ_three, exp_guarded3 hm, stack_val, stack_val, stack_val]

end

end Cert.Ctc.Ref

end
-- ==== Proof.RefLoop.lean ====
/- The reference's loop: after each trip the log-weights are the logarithms of the states' weights. -/
module

public import proofs.«01_k».proof.Proof.RefStep
public import proofs.«01_k».proof.Proof.States

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- The carried buffers before trip `k`: the emitted log-probabilities of the later steps, the allowed skips, the counter and
    the log-weights after step `k`. -/
structure Holds (D : Data) (k : ℕ) (V : Valuation τ sig (Elt Ideal)) : Prop where
  rows : ∀ (t : Fin 2047) b s, (V (Proc.devRef .tc main_v32_0) : FVec Ideal S2047x8x513 .f32) (ix3 t b s)
    = (D.lp ⟨t + 1, by omega⟩ b (extN D b s) : EReal)
  skip : ∀ b s, (V (Proc.devRef .tc main_v32_1) : IVec S8x513 1) (ix2 b s) = 1#1 ↔ ¬ (s : ℕ) % 2 < 1 ∧ D.M b (s / 2)
  ctr : V (Proc.devRef .tc main_v32_2) = fun _ => BitVec.ofNat 32 k
  weight : ∀ b s, eexp ((V (Proc.devRef .tc main_v32_3) : FVec Ideal S8x513 .f32) (ix2 b s)) = stateW D b k s * zP D b k

variable {D : Data} {k : ℕ} {V : Valuation τ sig (Elt Ideal)}

/-- The log-weights are not infinite. -/
theorem Holds.ne_top (h : Holds D k V) (b : Fin 8) (s : Fin 513) :
    (V (Proc.devRef .tc main_v32_3) : FVec Ideal S8x513 .f32) (ix2 b s) ≠ (⊤ : EReal) := fun e => by
  have := h.weight b s
  rw [eexp_eq_top.mpr e] at this
  exact state_ne_top D b k s this.symm

/-- What a trip computes. -/
theorem Holds.out (h : Holds D k V) (hk : k < 2047) (b : Fin 8) (s : Fin 513) :
    eexp (out V b s) = stateW D b (k + 1) s * zP D b (k + 1) := by
  rw [trip_val V k hk h.ctr h.ne_top b s, h.rows, state_succ D b k s (by omega) s.isLt]
  congr 2
  · congr 1
    · exact h.weight b s
    · unfold stack
      rw [if_neg (by decide), if_pos (by decide)]
      split_ifs
      · exact eexp_bot
      · exact h.weight b _
  · unfold stack
    rw [if_neg (by decide), if_neg (by decide)]
    refine (apply_ite eexp _ _ _).trans (if_ctx_congr (h.skip b s) (fun _ => ?_) (fun _ => eexp_bot))
    split_ifs
    · exact eexp_bot
    · exact h.weight b _

/-- A trip keeps the invariant. -/
theorem Holds.step (h : Holds D k V) (hk : k < 2047) : Holds D (k + 1) (STEP V) where
  rows t b s := by rw [STEP_main_v32_0]; exact h.rows t b s
  skip b s := by rw [STEP_main_v32_1]; exact h.skip b s
  ctr := by
    rw [STEP_main_v32_2, step_main_v32_2, h.ctr]
    funext i
    show BitVec.ofNat 32 k + 1#32 = BitVec.ofNat 32 (k + 1)
    exact (BitVec.ofNat_add ..).symm
  weight b s := by rw [STEP_main_v32_3, step_main_v32_3]; exact h.out hk b s

/-- The invariant after any number of trips. -/
theorem Holds.iter (h : Holds D 0 V) : ∀ k, k ≤ 2047 → Holds D k (STEP^[k] V)
  | 0, _ => h
  | k + 1, hk => by
    rw [Function.iterate_succ_apply']
    exact (Holds.iter h k (by omega)).step (by omega)

/-- The row that trip `k` writes. -/
theorem Holds.row (h : Holds D k V) (hk : k < 2047) (b : Fin 8) (s : Fin 513) :
    eexp ((STEP V (Proc.devRef .tc main_v32_4) : FVec Ideal S2047x8x513 .f32) (ix3 ⟨k, hk⟩ b s)) = stateW D b (k + 1) s * zP D b (k + 1) := by
  rw [STEP_main_v32_4, step_main_v32_4]
  exact (congrArg eexp (upd_val _ _ _ b s k hk h.ctr)).trans (h.out hk b s)

/-- The last row the loop writes. -/
theorem Holds.last (h : Holds D 0 V) (b : Fin 8) (s : Fin 513) (t : ℕ) (ht : t < 2047) :
    eexp ((STEP^[t + 1] V (Proc.devRef .tc main_v32_4) : FVec Ideal S2047x8x513 .f32) (ix3 ⟨t, ht⟩ b s)) = stateW D b (t + 1) s * zP D b (t + 1) := by
  rw [Function.iterate_succ_apply']
  exact (h.iter t (by omega)).row ht b s

end Cert.Ctc.Ref

end
-- ==== Proof.RefGather.lean ====
/- The reference's reads after its loop: one row of the log-weights, and two entries of it. -/
module

public import proofs.«01_k».proof.Proof.Gen.ReferenceIdeal.Run
public import proofs.«01_k».proof.Proof.Bits
public import Idealize.ShloMosaic.Lib.Claim

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- The dimensions of the two gathers. -/
abbrev gr : GatherDims S2048x8x513 S8x2 S8x513 := gather_S2048x8x513_S8x2_S8x513_1_01_n_n_01_1_11513
@[inherit_doc gr] abbrev ge : GatherDims S8x513 S8x2 S8 := gather_S8x513_S8x2_S8_n_01_n_n_01_1_11

/-- The index row that an entry of the row gather takes. -/
theorem gr_si (b : Fin 8) (s : Fin 513) (z : Fin 2) : GatherDims.siIdx gr (ix2 b s) z = ix2 b z := by
  funext a
  apply Fin.ext
  match a with
  | ⟨0, _⟩ => rfl
  | ⟨1, _⟩ => rfl

/-- The index row that an entry of the entry gather takes. -/
theorem ge_si (b : Fin 8) (z : Fin 2) : GatherDims.siIdx ge (ix1 b) z = ix2 b z := by
  funext a
  apply Fin.ext
  match a with
  | ⟨0, _⟩ => rfl
  | ⟨1, _⟩ => rfl

/-- The gather of rows at an index. -/
theorem row_val (A : FVec Ideal S2048x8x513 .f32) (i : IVec S8x2 32) (b : Fin 8) (s : Fin 513) (t : Fin 2048)
    (h0 : i (ix2 b 0) = BitVec.ofNat 32 t) (h1 : i (ix2 b 1) = BitVec.ofNat 32 b) :
    Host.gather gr A i (ix2 b s) = A (ix3 t b s) := by
  unfold Host.gather
  congr 1
  funext a
  apply Fin.ext
  show GatherDims.start gr (ix2 b s) i a + GatherDims.batchCoord gr (ix2 b s) a + GatherDims.offCoord gr (ix2 b s) a = _
  rw [GatherDims.batchCoord_eq_zero _ _ _ List.not_mem_nil, Nat.add_zero]
  match a with
  | ⟨0, h⟩ =>
    have hm : (⟨0, h⟩ : Fin (Shape.rank S2048x8x513)) ∈ gr.startIndexMap := (show (0 : Fin 3) ∈ [(0 : Fin 3), 1] by decide)
    rw [GatherDims.offCoord_eq_zero _ _ _ (fun k => ((GatherDims.mem_sKept _ _).mp k).1 (show (0 : Fin 3) ∈ [(0 : Fin 3), 1] by decide)),
      GatherDims.start, dif_pos hm, Nat.add_zero]
    have : i (GatherDims.siIdx gr (ix2 b s) ⟨gr.startIndexMap.idxOf ⟨0, h⟩, List.idxOf_lt_length_iff.2 hm⟩) = BitVec.ofNat 32 t :=
      (congrArg i (gr_si b s _)).trans h0
    rw [this, toInt_small _ (by omega)]
    show min (t : ℕ) (2048 - 1) = t
    omega
  | ⟨1, h⟩ =>
    have hm : (⟨1, h⟩ : Fin (Shape.rank S2048x8x513)) ∈ gr.startIndexMap := (show (1 : Fin 3) ∈ [(0 : Fin 3), 1] by decide)
    rw [GatherDims.offCoord_eq_zero _ _ _ (fun k => ((GatherDims.mem_sKept _ _).mp k).1 (show (1 : Fin 3) ∈ [(0 : Fin 3), 1] by decide)),
      GatherDims.start, dif_pos hm, Nat.add_zero]
    have : i (GatherDims.siIdx gr (ix2 b s) ⟨gr.startIndexMap.idxOf ⟨1, h⟩, List.idxOf_lt_length_iff.2 hm⟩) = BitVec.ofNat 32 b :=
      (congrArg i (gr_si b s _)).trans h1
    rw [this, toInt_small _ (by omega)]
    show min (b : ℕ) (8 - 1) = b
    omega
  | ⟨2, h⟩ =>
    have hm : (⟨2, h⟩ : Fin (Shape.rank S2048x8x513)) ∉ gr.startIndexMap := (show (2 : Fin 3) ∉ [(0 : Fin 3), 1] by decide)
    rw [GatherDims.start, dif_neg hm, Nat.zero_add]
    have hk : (⟨2, h⟩ : Fin (Shape.rank S2048x8x513)) ∈ gr.sKept := (show (2 : Fin 3) ∈ Shape.kept S2048x8x513 ([(0 : Fin 3), 1] ++ []) by decide)
    rw [GatherDims.offCoord, dif_pos hk]
    rfl

/-- The gather of entries at an index. -/
theorem entry_val (R : FVec Ideal S8x513 .f32) (i : IVec S8x2 32) (b : Fin 8) (n : Fin 513)
    (h0 : i (ix2 b 0) = BitVec.ofNat 32 b) (h1 : i (ix2 b 1) = BitVec.ofNat 32 n) :
    Host.gather ge R i (ix1 b) = R (ix2 b n) := by
  unfold Host.gather
  congr 1
  funext a
  apply Fin.ext
  show GatherDims.start ge (ix1 b) i a + GatherDims.batchCoord ge (ix1 b) a + GatherDims.offCoord ge (ix1 b) a = _
  rw [GatherDims.batchCoord_eq_zero _ _ _ List.not_mem_nil, Nat.add_zero]
  match a with
  | ⟨0, h⟩ =>
    have hm : (⟨0, h⟩ : Fin (Shape.rank S8x513)) ∈ ge.startIndexMap := (show (0 : Fin 2) ∈ [(0 : Fin 2), 1] by decide)
    rw [GatherDims.offCoord_eq_zero _ _ _ (fun k => ((GatherDims.mem_sKept _ _).mp k).1 (show (0 : Fin 2) ∈ [(0 : Fin 2), 1] by decide)),
      GatherDims.start, dif_pos hm, Nat.add_zero]
    have : i (GatherDims.siIdx ge (ix1 b) ⟨ge.startIndexMap.idxOf ⟨0, h⟩, List.idxOf_lt_length_iff.2 hm⟩) = BitVec.ofNat 32 b :=
      (congrArg i (ge_si b _)).trans h0
    rw [this, toInt_small _ (by omega)]
    show min (b : ℕ) (8 - 1) = b
    omega
  | ⟨1, h⟩ =>
    have hm : (⟨1, h⟩ : Fin (Shape.rank S8x513)) ∈ ge.startIndexMap := (show (1 : Fin 2) ∈ [(0 : Fin 2), 1] by decide)
    rw [GatherDims.offCoord_eq_zero _ _ _ (fun k => ((GatherDims.mem_sKept _ _).mp k).1 (show (1 : Fin 2) ∈ [(0 : Fin 2), 1] by decide)),
      GatherDims.start, dif_pos hm, Nat.add_zero]
    have : i (GatherDims.siIdx ge (ix1 b) ⟨ge.startIndexMap.idxOf ⟨1, h⟩, List.idxOf_lt_length_iff.2 hm⟩) = BitVec.ofNat 32 n :=
      (congrArg i (ge_si b _)).trans h1
    rw [this, toInt_small _ (by omega)]
    show min (n : ℕ) (513 - 1) = n
    omega

end Cert.Ctc.Ref

end
-- ==== Proof.RefPost.lean ====
/- What the reference computes after its loop: the loss from the two last entries of the last row. -/
module

public import proofs.«01_k».proof.Proof.RefGather
public import proofs.«01_k».proof.Proof.LogSum
public import proofs.«01_k».proof.Proof.Spec

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- An index read from the end when negative. -/
def wrapOf (x : IVec S8 32) (n : BitVec 32) : IVec S8 32 :=
  select (cmpi .slt x (broadcastInDim S8 ![] bcast_S_S8 (constantI S_ 32 0#32))) (addi x (broadcastInDim S8 ![] bcast_S_S8 (constantI S_ 32 n))) x

/-- Two columns of indices. -/
def colsOf (x y : IVec S8 32) : IVec S8x2 32 :=
  concatenate S8x2 1 [⟨S8x1, broadcastInDim S8x1 ![0] bcast_S8_S8x1_0 x⟩, ⟨S8x1, broadcastInDim S8x1 ![0] bcast_S8_S8x1_0 y⟩] concatenates_S8x1_S8x1_S8x2_d1

/-- All rows of log-weights, the first before the others. -/
def allOf (a : FVec Ideal S8x513 .f32) (r : FVec Ideal S2047x8x513 .f32) : FVec Ideal S2048x8x513 .f32 :=
  concatenate S2048x8x513 0 [⟨S1x8x513, broadcastInDim S1x8x513 ![1, 2] bcast_S8x513_S1x8x513_1_2 a⟩, ⟨S2047x8x513, r⟩] concatenates_S1x8x513_S2047x8x513_S2048x8x513_d0

/-- The row of each sequence's last step. -/
def lastOf (A : FVec Ideal S2048x8x513 .f32) (il : IVec S8 32) : FVec Ideal S8x513 .f32 :=
  Host.gather gr A (colsOf (wrapOf (subi il (broadcastInDim S8 ![] bcast_S_S8 (constantI S_ 32 1#32))) 2048#32) (wrapOf (iotaInDim S8 32 0) 8#32))

/-- The entry of each sequence at a state. -/
def entryOf (R : FVec Ideal S8x513 .f32) (x : IVec S8 32) : FVec Ideal S8 .f32 :=
  Host.gather ge R (colsOf (wrapOf (iotaInDim S8 32 0) 8#32) (wrapOf x 513#32))

/-- Twice the number of symbols. -/
def twice (tl : IVec S8 32) : IVec S8 32 := muli (broadcastInDim S8 ![] bcast_S_S8 (constantI S_ 32 2#32)) tl

/-- The log-weights of the two end states. -/
def endsOf (R : FVec Ideal S8x513 .f32) (tl : IVec S8 32) : FVec Ideal S2x8 .f32 :=
  concatenate S2x8 0 [⟨S1x8, broadcastInDim S1x8 ![1] bcast_S8_S1x8_1 (entryOf R (twice tl))⟩,
    ⟨S1x8, broadcastInDim S1x8 ![1] bcast_S8_S1x8_1 (entryOf R (subi (twice tl) (broadcastInDim S8 ![] bcast_S_S8 (constantI S_ 32 1#32))))⟩]
    concatenates_S1x8_S1x8_S2x8_d0

/-- The larger of the two. -/
def maxOf (E : FVec Ideal S2x8 .f32) : FVec Ideal S8 .f32 :=
  Host.reduce FloatOps.maximumf E (constant S_ .f32 0xFF800000#32) reducesTo_S2x8_S8_d0 h_S_

section

variable (V : Valuation τ sig (Elt Ideal))

/-- The weights of the two ends, from the last row. -/
theorem post5_v88 : after hostOps0_5 V (Proc.devRef .tc main_v88)
    = endsOf (lastOf (allOf (V (Proc.devRef .tc main_v29)) (V (Proc.devRef .tc main_v32_4))) (V (Proc.devRef .tc main_arg2))) (V (Proc.devRef .tc main_arg3)) := by
  after_results
  rfl

/-- Their maximum. -/
theorem post5_v89 : after hostOps0_5 V (Proc.devRef .tc main_v89) = maxOf (after hostOps0_5 V (Proc.devRef .tc main_v88)) := by
  after_results
  rfl

/-- Whether the maximum is above minus infinity. -/
theorem post5_v91 : after hostOps0_5 V (Proc.devRef .tc main_v91)
    = cmpf .ogt (after hostOps0_5 V (Proc.devRef .tc main_v89)) (broadcastInDim S8 ![] bcast_S_S8 (constant (F := Ideal) S_ .f32 0xFF800000#32)) := by
  after_results

/-- The shift taken where it is not. -/
theorem post5_cst : after hostOps0_5 V (Proc.devRef .tc main_cst_25) = constant (F := Ideal) S_ .f32 0#32 := by
  after_results

/-- This stretch keeps the lengths. -/
theorem post5_arg3 : after hostOps0_5 V (Proc.devRef .tc main_arg3) = V (Proc.devRef .tc main_arg3) := by
  after_results

/-- The guarded maximum. -/
theorem post6_v92 : after hostOps0_6 V (Proc.devRef .tc main_v92) = select (V (Proc.devRef .tc main_v91)) (V (Proc.devRef .tc main_v89))
    (broadcastInDim S8 ![] bcast_S_S8 (id (V (Proc.devRef .tc main_cst_25)))) := by
  after_results
  rfl

/-- This stretch keeps the ends. -/
theorem post6_v88 : after hostOps0_6 V (Proc.devRef .tc main_v88) = V (Proc.devRef .tc main_v88) := by
  after_results

/-- This stretch keeps the lengths. -/
theorem post6_arg3 : after hostOps0_6 V (Proc.devRef .tc main_arg3) = V (Proc.devRef .tc main_arg3) := by
  after_results

/-- Minus the logarithm of the sum of the two end states' probabilities. -/
def lossOf (E : FVec Ideal S2x8 .f32) (g : FVec Ideal S8 .f32) : FVec Ideal S8 .f32 :=
  Host.negf (addf g (Host.log (Host.reduceAdd (Host.exp (subf E (broadcastInDim S2x8 ![0, 1] bcast_S1x8_S2x8_0_1
    (broadcastInDim S1x8 ![1] bcast_S8_S1x8_1 g)))) (constant S_ .f32 0#32) reducesTo_S2x8_S8_d0 h_S_)))

/-- The losses. -/
theorem post7_v100 : after hostOps0_7 V (Proc.devRef .tc main_v100) = lossOf (V (Proc.devRef .tc main_v88)) (V (Proc.devRef .tc main_v92)) := by
  after_results
  rfl

/-- Whether a loss is above the bound. -/
theorem post7_v102 : after hostOps0_7 V (Proc.devRef .tc main_v102) = cmpf .ogt (after hostOps0_7 V (Proc.devRef .tc main_v100))
    (broadcastInDim S8 ![] bcast_S_S8 (constant (F := Ideal) S_ .f32 0x6FA18F08#32)) := by
  after_results

/-- The loss put in its place. -/
theorem post7_cst : after hostOps0_7 V (Proc.devRef .tc main_cst_28) = constant (F := Ideal) S_ .f32 0#32 := by
  after_results

/-- This stretch keeps the lengths. -/
theorem post7_arg3 : after hostOps0_7 V (Proc.devRef .tc main_arg3) = V (Proc.devRef .tc main_arg3) := by
  after_results

/-- The losses, zero where there is no path. -/
theorem post8_v103 : after hostOps0_8 V (Proc.devRef .tc main_v103) = select (V (Proc.devRef .tc main_v102))
    (broadcastInDim S8 ![] bcast_S_S8 (id (V (Proc.devRef .tc main_cst_28)))) (V (Proc.devRef .tc main_v100)) := by
  after_results
  rfl

/-- This stretch keeps the lengths. -/
theorem post8_arg3 : after hostOps0_8 V (Proc.devRef .tc main_arg3) = V (Proc.devRef .tc main_arg3) := by
  after_results

/-- The mean of the losses. -/
def meanOf (l : FVec Ideal S8 .f32) (tl : IVec S8 32) : FVec Ideal S_ .f32 :=
  Host.divf (Host.reduceAdd (Host.divf l (sitofp .f32 tl)) (constant S_ .f32 0#32) reducesTo_S8_S_d0 h_S_) (constant S_ .f32 0x41000000#32)

/-- The mean. -/
theorem post9_v107 : after hostOps0_9 V (Proc.devRef .tc main_v107) = meanOf (V (Proc.devRef .tc main_v103)) (V (Proc.devRef .tc main_arg3)) := by
  after_results
  rfl

/-- The guarded maximum. -/
def guardOf (x : FVec Ideal S8 .f32) : FVec Ideal S8 .f32 :=
  select (cmpf .ogt x (broadcastInDim S8 ![] bcast_S_S8 (constant (F := Ideal) S_ .f32 0xFF800000#32))) x
    (broadcastInDim S8 ![] bcast_S_S8 (id (constant S_ .f32 0#32)))

/-- Losses that are too large read as zero. -/
def cutOf (l : FVec Ideal S8 .f32) : FVec Ideal S8 .f32 :=
  select (cmpf .ogt l (broadcastInDim S8 ![] bcast_S_S8 (constant (F := Ideal) S_ .f32 0x6FA18F08#32)))
    (broadcastInDim S8 ![] bcast_S_S8 (id (constant S_ .f32 0#32))) l

/-- The result of the stretches after the loop. -/
theorem post_v107 (E : FVec Ideal S2x8 .f32)
    (hE : E = endsOf (lastOf (allOf (V (Proc.devRef .tc main_v29)) (V (Proc.devRef .tc main_v32_4))) (V (Proc.devRef .tc main_arg2))) (V (Proc.devRef .tc main_arg3))) :
    afterL postI V (Proc.devRef .tc main_v107) = meanOf (cutOf (lossOf E (guardOf (maxOf E)))) (V (Proc.devRef .tc main_arg3)) := by
  subst hE
  simp only [afterL_cons, afterL_nil]
  rw [post9_v107, post8_v103, post8_arg3, post7_v102, post7_v100, post7_cst, post7_arg3, post6_v92, post6_v88, post6_arg3, post5_v91, post5_v89,
    post5_cst, post5_arg3, post5_v88]
  rfl

end

/-- A nonnegative index is not wrapped. -/
theorem wrap_val (x : IVec S8 32) (n : BitVec 32) (b : Fin 8) (k : ℕ) (hk : k < 2 ^ 31) (hx : x (ix1 b) = BitVec.ofNat 32 k) :
    wrapOf x n (ix1 b) = BitVec.ofNat 32 k := by
  pointwise [wrapOf]
  rw [bit_select, if_neg, hx]
  rw [hx]
  exact fun h => absurd ((bit_slt k 0 hk (by decide)).mp h) (by omega)

/-- The batch index is not wrapped. -/
theorem iota_wrap (b : Fin 8) : wrapOf (iotaInDim S8 32 0) 8#32 (ix1 b) = BitVec.ofNat 32 b :=
  wrap_val _ _ b b (by omega) (by pointwise)

/-- The first column of two stacked index vectors. -/
theorem cols_0 (x y : IVec S8 32) (b : Fin 8) : colsOf x y (ix2 b 0) = x (ix1 b) := by
  pointwise [colsOf]

/-- The second column of two stacked index vectors. -/
theorem cols_1 (x y : IVec S8 32) (b : Fin 8) : colsOf x y (ix2 b 1) = y (ix1 b) := by
  pointwise [colsOf]

/-- The last row, when every sequence is of full length. -/
theorem last_val (a : FVec Ideal S8x513 .f32) (r : FVec Ideal S2047x8x513 .f32) (il : IVec S8 32) (b : Fin 8) (s : Fin 513)
    (hil : il (ix1 b) = 2048#32) : lastOf (allOf a r) il (ix2 b s) = r (ix3 ⟨2046, by decide⟩ b s) := by
  unfold lastOf
  rw [row_val _ _ b s ⟨2047, by decide⟩ ?_ ?_]
  · pointwise [allOf]
  · rw [cols_0]
    refine wrap_val _ _ b 2047 (by decide) ?_
    pointwise
    rw [hil]
    rfl
  · rw [cols_1]
    exact iota_wrap b

/-- An entry gathered at one state of each row. -/
theorem at_val (R : FVec Ideal S8x513 .f32) (x : IVec S8 32) (b : Fin 8) (n : Fin 513) (h : x (ix1 b) = BitVec.ofNat 32 n) :
    entryOf R x (ix1 b) = R (ix2 b n) := by
  unfold entryOf
  refine entry_val R _ b n ?_ ?_
  · rw [cols_0]; exact iota_wrap b
  · rw [cols_1]; exact wrap_val x _ b n (by omega) h

/-- Twice a length, as a word. -/
theorem twice_val (tl : IVec S8 32) (b : Fin 8) (n : ℕ) (h : tl (ix1 b) = BitVec.ofNat 32 n) : twice tl (ix1 b) = BitVec.ofNat 32 (2 * n) := by
  pointwise [twice]
  rw [h]
  exact (BitVec.ofNat_mul ..).symm

/-- The log-weights of the two ends. -/
theorem ends_val (R : FVec Ideal S8x513 .f32) (tl : IVec S8 32) (b : Fin 8) (n : Fin 256) (h : tl (ix1 b) = BitVec.ofNat 32 (n + 1)) (k : Fin 2) :
    endsOf R tl (ix2 k b) = if (k : ℕ) < 1 then R (ix2 b ⟨2 * n + 2, by omega⟩) else R (ix2 b ⟨2 * n + 1, by omega⟩) := by
  have h2 := twice_val tl b _ h
  have e0 := at_val R (twice tl) b ⟨2 * n + 2, by omega⟩ h2
  have e1 := at_val R (subi (twice tl) (broadcastInDim S8 ![] bcast_S_S8 (constantI S_ 32 1#32))) b ⟨2 * n + 1, by omega⟩ (by
    generalize twice tl = w at h2
    pointwise
    rw [h2]
    show BitVec.ofNat 32 (2 * n + 1 + 1) - BitVec.ofNat 32 1 = BitVec.ofNat 32 (2 * n + 1)
    rw [BitVec.ofNat_add, BitVec.add_sub_cancel])
  unfold endsOf
  generalize entryOf R (twice tl) = x at e0
  generalize entryOf R _ = y at e1
  pointwise
  rw [e0, e1, dite_eq_ite]

/-- The maximum of two finite ends is not plus infinity. -/
theorem maxOf_ne_top (E : FVec Ideal S2x8 .f32) (b : Fin 8) (h : ∀ k, E (ix2 k b) ≠ (⊤ : EReal)) : maxOf E (ix1 b) ≠ (⊤ : EReal) := by
  pointwise [maxOf]
  rw [← lt_top_iff_ne_top, Finset.fold_max_lt, bits_bot]
  exact ⟨bot_lt_top, fun x _ => lt_top_iff_ne_top.mpr (h x)⟩

/-- The constant zero. -/
theorem konst0 (i : S_.Idx) : id (constant (F := Ideal) S_ .f32 0#32) i = (0 : EReal) := Ideal.ofBits_zero_f32

/-- The guarded maximum, element by element. -/
theorem guard_val (x : FVec Ideal S8 .f32) (b : Fin 8) : guardOf x (ix1 b) = guarded (x (ix1 b)) := by
  pointwise [guardOf]
  rw [konst0, bits_bot]
  rfl

/-- A loss, from its two ends. -/
theorem loss_val (E : FVec Ideal S2x8 .f32) (g : FVec Ideal S8 .f32) (b : Fin 8) : lossOf E g (ix1 b)
    = 0 - (g (ix1 b) + Ideal.log (Ideal.exp (E (ix2 0 b) - g (ix1 b)) + Ideal.exp (E (ix2 1 b) - g (ix1 b)))) := by
  pointwise [lossOf]
  rw [Fin.sum_univ_two, zero_sub]

/-- A loss above the bound becomes zero. -/
theorem cut_val (l : FVec Ideal S8 .f32) (b : Fin 8) : cutOf l (ix1 b) = if Ideal.ofBits FTy.f32 1872858888#32 < l (ix1 b) then 0 else l (ix1 b) := by
  pointwise [cutOf]
  rw [konst0]

/-- The mean over the batch of the losses divided by the lengths. -/
theorem mean_val (l : FVec Ideal S8 .f32) (tl : IVec S8 32) : meanOf l tl
    = fun _ => Ideal.div (∑ b : Fin 8, Ideal.div (l (ix1 b)) (FloatOps.sitofp (F := Ideal) FTy.f32 (tl (ix1 b)))) (Ideal.ofBits FTy.f32 1090519040#32) := by
  funext i
  pointwise [meanOf]

/-- The result after the loop: the mean loss of the weights of the two ends of the last row. -/
theorem post_eq (V : Valuation τ sig (Elt Ideal)) (f : Fin 8 → ℕ → ENNReal) (last : Fin 8 → Fin 256) (hf : ∀ b n, f b n ≠ ⊤)
    (hil : ∀ b, (V (Proc.devRef .tc main_arg2) : IVec S8 32) (ix1 b) = 2048#32)
    (htl : ∀ b, (V (Proc.devRef .tc main_arg3) : IVec S8 32) (ix1 b) = BitVec.ofNat 32 (last b + 1))
    (hA : ∀ b s, eexp ((V (Proc.devRef .tc main_v32_4) : FVec Ideal S2047x8x513 .f32) (ix3 ⟨2046, by decide⟩ b s)) = f b s) :
    afterL postI V (Proc.devRef .tc main_v107)
      = fun _ => meanLoss (fun b => f b (2 * last b + 2) + f b (2 * last b + 1)) fun b => BitVec.ofNat 32 (last b + 1) := by
  rw [post_v107 V _ rfl]
  generalize V (Proc.devRef .tc main_arg2) = il at hil
  generalize V (Proc.devRef .tc main_arg3) = tl at htl
  generalize V (Proc.devRef .tc main_v32_4) = r at hA
  generalize V (Proc.devRef .tc main_v29) = a
  have hR : ∀ b s, eexp (lastOf (allOf a r) il (ix2 b s)) = f b s := fun b s => by rw [last_val a r il b s (hil b)]; exact hA b s
  generalize lastOf (allOf a r) il = R at hR
  have hE : ∀ b k, eexp (endsOf R tl (ix2 k b)) = if (k : ℕ) < 1 then f b (2 * last b + 2) else f b (2 * last b + 1) := fun b k => by
    rw [ends_val R tl b (last b) (htl b) k]
    split_ifs
    · exact hR b _
    · exact hR b _
  generalize endsOf R tl = E at hE
  have hm : ∀ b, maxOf E (ix1 b) ≠ (⊤ : EReal) := fun b => maxOf_ne_top E b fun k e => by
    have := hE b k
    rw [eexp_eq_top.mpr e] at this
    split_ifs at this
    · exact hf _ _ this.symm
    · exact hf _ _ this.symm
  have hl : ∀ b, lossOf E (guardOf (maxOf E)) (ix1 b) = 0 - Ideal.log ((f b (2 * last b + 2) + f b (2 * last b + 1) : ENNReal) : EReal) := fun b => by
    rw [loss_val, guard_val]
    congr 1
    apply eexp_inj
    rw [exp_guarded2 (hm b), eexp_log, hE, hE]
    rfl
  rw [mean_val]
  unfold meanLoss
  funext _
  congr 1
  refine Finset.sum_congr rfl fun b _ => ?_
  rw [cut_val, hl, htl]

end Cert.Ctc.Ref

end
-- ==== Proof.RefKeep.lean ====
/- What the reference leaves as it was: its arguments, through the stretches before the loop, the loop and the stretches after
   it. -/
module

public import proofs.«01_k».proof.Proof.Gen.ReferenceIdeal.Run
public import Idealize.ShloMosaic.Lib.Quiescent
public import Idealize.ShloMosaic.Lib.Claim
public import Idealize.ShloMosaic.PureOps.Ideal

@[expose] public section

set_option maxRecDepth 16384

noncomputable section

namespace Cert.Ctc.Ref

open Idealize.ShloMosaic Idealize.ShloMosaic.TcCoe Idealize.ShloMosaic.StableHlo Idealize.ShloMosaic.Tactic Idealize.SL.Sem
open Cert.ReferenceIdeal Cert.ReferenceIdeal.Value Cert.ReferenceIdeal.Gen

/-- The argument arrays. -/
abbrev args : List (Ref sig .tc) := [main_arg0, main_arg1, main_arg2, main_arg3]

variable (V : Valuation τ sig (Elt Ideal))

/-- The stretches before the loop keep what none of them writes. -/
theorem pre_keep (r : Ref sig .tc) (h : ∀ W ∈ [hostOps0_W, hostOps0_1_W, hostOps0_2_W, hostOps0_3_W, hostOps0_4_W], r ∉ W) :
    afterL preI V (Proc.devRef .tc r) = V (Proc.devRef .tc r) := by
  simp only [List.forall_mem_cons] at h
  obtain ⟨h0, h1, h2, h3, h4, -⟩ := h
  show after hostOps0_4 (after hostOps0_3 (after hostOps0_2 (after hostOps0_1 (after hostOps0 V)))) _ = _
  rw [after_of_writes_sub _ _ hostOps0_4_writes h4, after_of_writes_sub _ _ hostOps0_3_writes h3,
    after_of_writes_sub _ _ hostOps0_2_writes h2, after_of_writes_sub _ _ hostOps0_1_writes h1, after_of_writes_sub _ _ hostOps0_writes h0]

/-- A trip of the loop keeps what its condition and its body do not write. -/
theorem trip_keep (r : Ref sig .tc) (h : ∀ W ∈ [condOps_W, while0Ops0_W, while0Ops0_1_W, while0Ops0_2_W, while0Ops0_3_W,
      while0Ops0_4_W, while0Ops0_5_W, while0Ops0_6_W, while0Ops0_7_W], r ∉ W) :
    afterL bodyI (after condOps V) (Proc.devRef .tc r) = V (Proc.devRef .tc r) := by
  simp only [List.forall_mem_cons] at h
  obtain ⟨hc, h0, h1, h2, h3, h4, h5, h6, h7, -⟩ := h
  show after while0Ops0_7 (after while0Ops0_6 (after while0Ops0_5 (after while0Ops0_4 (after while0Ops0_3 (after while0Ops0_2
    (after while0Ops0_1 (after while0Ops0 (after condOps V)))))))) _ = _
  rw [after_of_writes_sub _ _ while0Ops0_7_writes h7, after_of_writes_sub _ _ while0Ops0_6_writes h6,
    after_of_writes_sub _ _ while0Ops0_5_writes h5, after_of_writes_sub _ _ while0Ops0_4_writes h4,
    after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

/-- The stretches after the loop keep the first argument. -/
theorem post_arg0 : afterL postI V (Proc.devRef .tc main_arg0) = V (Proc.devRef .tc main_arg0) := by
  simp only [afterL_cons, afterL_nil]
  after_results

/-- They keep the second argument. -/
theorem post_arg1 : afterL postI V (Proc.devRef .tc main_arg1) = V (Proc.devRef .tc main_arg1) := by
  simp only [afterL_cons, afterL_nil]
  after_results

/-- They keep the third argument. -/
theorem post_arg2 : afterL postI V (Proc.devRef .tc main_arg2) = V (Proc.devRef .tc main_arg2) := by
  simp only [afterL_cons, afterL_nil]
  after_results

/-- They keep the fourth argument. -/
theorem post_arg3 : afterL postI V (Proc.devRef .tc main_arg3) = V (Proc.devRef .tc main_arg3) := by
  simp only [afterL_cons, afterL_nil]
  after_results

variable (m : (ℓ : Loc nD τ sig) → Buf (Elt Ideal) ℓ) (c : Dev nD)

/-- The arguments before trip `k`. -/
theorem trips_arg (r : Ref sig .tc) (hr : r ∈ args) (k : ℕ) :
    atTrip condOps bodyI (entryContents preI m) k c (Proc.devRef .tc r) = m ((c.tc : Thread nD τ).loc r) := by
  induction k with
  | zero =>
    refine (pre_keep (launchContents m c) r ?_).trans rfl
    revert r; decide +kernel
  | succ k ih =>
    refine (trip_keep _ r ?_).trans ih
    clear ih
    revert r; decide +kernel

/-- The arguments after the loop. -/
theorem loop_arg (r : Ref sig .tc) (hr : r ∈ args) (k : ℕ) :
    after condOps (atTrip condOps bodyI (entryContents preI m) k c) (Proc.devRef .tc r) = m ((c.tc : Thread nD τ).loc r) := by
  refine (after_of_writes_sub _ _ condOps_writes ?_).trans (trips_arg m c r hr k)
  revert r; decide +kernel

/-- The reference runs, its arguments end unchanged and every semaphore counter ends at zero. -/
theorem frame (g : Dev nD → PrngReg) : θ_run (defs (F := Ideal)) (onTc (τ := τ) (main (F := Ideal))) ⟨m, fun _ => 0, g⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_⟩, sem_eq_zero_of_no_sems (by decide) _⟩) (run_fold m g)
  · exact (h c main_arg0 (by decide)).trans ((post_arg0 _).trans (loop_arg m c _ (by decide) _))
  · exact (h c main_arg1 (by decide)).trans ((post_arg1 _).trans (loop_arg m c _ (by decide) _))
  · exact (h c main_arg2 (by decide)).trans ((post_arg2 _).trans (loop_arg m c _ (by decide) _))
  · exact (h c main_arg3 (by decide)).trans ((post_arg3 _).trans (loop_arg m c _ (by decide) _))

end Cert.Ctc.Ref

end
-- ==== Proof.RefEntry.lean ====
/- The reference's buffers when its loop starts, and its result. -/
module

public import proofs.«01_k».proof.Proof.RefPre
public import proofs.«01_k».proof.Proof.RefLoop
public import proofs.«01_k».proof.Proof.RefPost
public import proofs.«01_k».proof.Proof.RefKeep

@[expose] public section

set_option maxRecDepth 16384

noncomputable section

namespace Cert.Ctc.Ref

open Idealize.ShloMosaic Idealize.ShloMosaic.TcCoe Idealize.ShloMosaic.StableHlo Idealize.ShloMosaic.Tactic
open Cert.ReferenceIdeal Cert.ReferenceIdeal.Value Cert.ReferenceIdeal.Gen

/-- The later steps' emitted log-probabilities, cut from all steps'. -/
def laterOf (g : FVec Ideal S2048x8x513 .f32) : FVec Ideal S2047x8x513 .f32 :=
  id (extractStridedSlice S2047x8x513 ![1, 0, 0] g slices_S2048x8x513_S2047x8x513_1_0_0)

/-- An entry of the later steps. -/
theorem later_val (g : FVec Ideal S2048x8x513 .f32) (t : Fin 2047) (b : Fin 8) (s : Fin 513) :
    laterOf g (ix3 t b s) = g (ix3 ⟨t + 1, by omega⟩ b s) := by
  show extractStridedSlice S2047x8x513 ![1, 0, 0] g slices_S2048x8x513_S2047x8x513_1_0_0 (ix3 t b s) = _
  pointwise
  simp only [Nat.add_comm 1]

variable (V : Valuation τ sig (Elt Ideal))

/-- What the last stretch before the loop hands to it: the later steps. -/
theorem pre4_rows : after hostOps0_4 V (Proc.devRef .tc main_v32_0) = laterOf (V (Proc.devRef .tc main_v9)) := by
  after_results
  rfl

/-- The allowed skips. -/
theorem pre4_skip : after hostOps0_4 V (Proc.devRef .tc main_v32_1) = V (Proc.devRef .tc main_v22) := by
  after_results
  rfl

/-- The counter. -/
theorem pre4_ctr : after hostOps0_4 V (Proc.devRef .tc main_v32_2) = fun _ => BitVec.ofNat 32 0 := by
  after_results
  rfl

/-- The first log-weights. -/
theorem pre4_weight : after hostOps0_4 V (Proc.devRef .tc main_v32_3) = V (Proc.devRef .tc main_v29) := by
  after_results
  rfl

/-- The gathered log-probabilities when the loop starts. -/
theorem entry_v9 : after hostOps0_1 (after hostOps0 V) (Proc.devRef .tc main_v9)
    = gatherOf (V (Proc.devRef .tc main_arg0)) (rowsOf (extOf (V (Proc.devRef .tc main_arg1)))) := by
  rw [pre1_v9, pre0_v8, after_of_writes_sub _ _ hostOps0_writes (r := main_arg0) (by decide +kernel)]

/-- The later steps when the loop starts. -/
theorem entry_rows : afterL preI V (Proc.devRef .tc main_v32_0)
    = laterOf (gatherOf (V (Proc.devRef .tc main_arg0)) (rowsOf (extOf (V (Proc.devRef .tc main_arg1))))) := by
  rw [show afterL preI V = after hostOps0_4 (after hostOps0_3 (after hostOps0_2 (after hostOps0_1 (after hostOps0 V)))) from rfl]
  rw [pre4_rows, after_of_writes_sub _ _ hostOps0_3_writes (r := main_v9) (by decide +kernel),
    after_of_writes_sub _ _ hostOps0_2_writes (r := main_v9) (by decide +kernel), entry_v9]

/-- The allowed skips when the loop starts. -/
theorem entry_skip : afterL preI V (Proc.devRef .tc main_v32_1) = skipOf (extOf (V (Proc.devRef .tc main_arg1))) := by
  rw [show afterL preI V = after hostOps0_4 (after hostOps0_3 (after hostOps0_2 (after hostOps0_1 (after hostOps0 V)))) from rfl]
  rw [pre4_skip, after_of_writes_sub _ _ hostOps0_3_writes (r := main_v22) (by decide +kernel), pre2_v22,
    after_of_writes_sub _ _ hostOps0_1_writes (r := main_v6) (by decide +kernel), pre0_v6]

/-- The log-weights when the loop starts. -/
theorem entry_weight : afterL preI V (Proc.devRef .tc main_v32_3)
    = firstOf (gatherOf (V (Proc.devRef .tc main_arg0)) (rowsOf (extOf (V (Proc.devRef .tc main_arg1))))) := by
  rw [show afterL preI V = after hostOps0_4 (after hostOps0_3 (after hostOps0_2 (after hostOps0_1 (after hostOps0 V)))) from rfl]
  rw [pre4_weight, pre3_v29, pre2_v26, pre2_v28, pre2_cst, entry_v9]
  rfl

variable {D : Data} {V}

/-- The loop starts with the first step's weights. -/
theorem holds_entry (hR : Reads D (V (Proc.devRef .tc main_arg0)) (V (Proc.devRef .tc main_arg1)) (V (Proc.devRef .tc main_arg3))) :
    Holds D 0 (afterL preI V) where
  rows t b s := by
    rw [entry_rows, later_val]
    exact gather_val hR _ b s
  skip b s := by
    rw [entry_skip]
    exact skip_val hR b s
  ctr := by
    rw [show afterL preI V = after hostOps0_4 (after hostOps0_3 (after hostOps0_2 (after hostOps0_1 (after hostOps0 V)))) from rfl]
    exact pre4_ctr _
  weight b s := by
    rw [entry_weight, first_val, state_zero D b s s.isLt, apply_ite eexp, eexp_bot]
    refine if_congr Iff.rfl (congrArg eexp ?_) rfl
    exact gather_val hR 0 b s

/-- The weights of the two ends, at the last step, with the blanks' factor. -/
theorem ends_total (b : Fin 8) : stateW D b 2047 (2 * D.last b + 2) * zP D b 2047 + stateW D b 2047 (2 * D.last b + 1) * zP D b 2047
    = D.totalAt 2047 b := by
  unfold Data.totalAt stateW
  rw [if_pos (by omega), if_neg (by omega), ← add_mul, zP_last, show (2 * (D.last b : ℕ) + 2) / 2 = D.last b + 1 by omega,
    show (2 * (D.last b : ℕ) + 1) / 2 = D.last b by omega]

/-- The reference's result is the loss. -/
theorem result (m : (ℓ : Loc nD τ sig) → Buf (Elt Ideal) ℓ) (c : Dev nD)
    (hR : Reads D (m ((c.tc : Thread nD τ).loc main_arg0)) (m ((c.tc : Thread nD τ).loc main_arg1)) (m ((c.tc : Thread nD τ).loc main_arg3)))
    (hil : ∀ b, (m ((c.tc : Thread nD τ).loc main_arg2) : IVec S8 32) (ix1 b) = 2048#32) :
    finalContents condOps preI bodyI postI 2047 m c (Proc.devRef .tc main_v107) = fun _ => D.loss := by
  have h := holds_entry (V := launchContents m c) hR
  have hl := loop_arg m c
  have hA := atK_agree m c 2047
  refine (post_eq _ (fun b s => stateW D b 2047 s * zP D b 2047) D.last (fun b n => state_ne_top D b 2047 n) ?_ ?_ ?_).trans ?_
  · intro b
    rw [hl main_arg2 (by decide)]
    exact hil b
  · intro b
    rw [hl main_arg3 (by decide)]
    exact hR.tl b
  · intro b s
    rw [cond_keeps _ main_v32_4 (by decide)]
    have e : atTrip condOps bodyI (entryContents preI m) 2047 c (Proc.devRef .tc main_v32_4) = _ := hA main_v32_4 (by decide)
    rw [e]
    exact h.last b s 2046 (by decide)
  · unfold Data.loss
    simp only [ends_total]

end Cert.Ctc.Ref

end
-- ==== Proof.Result.lean ====
/- The two programs' results: each ends with the loss. -/
module

public import proofs.«01_k».proof.Proof.Entry
public import proofs.«01_k».proof.Proof.RefEntry
public import Idealize.ShloMosaic.Lib.Pipeline.FrameSuffix

@[expose] public section

set_option maxRecDepth 16384

noncomputable section

namespace Cert.Ctc

open Idealize.ShloMosaic Idealize.ShloMosaic.TcCoe Idealize.ShloMosaic.Tactic Idealize.SL.Sem

section Kernel

open Cert.KernelIdeal Cert.KernelIdeal.Gen

variable (m : (ℓ : Loc nD τ sig) → Buf (Elt Ideal) ℓ)

/-- The kernel's result, from its only output array. -/
theorem tail_eq (c : Dev nD) (x : EReal) (h : (dats (F := Ideal) m 0 c).arrAt 6 (cfgs 0).N = fun _ => x) :
    Pipeline.afterTail₀ cfgs (dats (F := Ideal) m) 0 (V0 m) [hostOps1] c main_v19 = fun _ => x := by
  unfold Pipeline.afterTail₀
  have e : Pipeline.withArrays (cfgs 0).spec c (V0 m c) (fun w => (dats (F := Ideal) m 0 c).arrAt w (cfgs 0).N)
      (Proc.devRef .tc main_v18) = fun _ => x := by
    exact (Pipeline.withArrays_arr (cfgs 0).spec (by decide +kernel) c (V0 m c)
      (fun w => (dats (F := Ideal) m 0 c).arrAt w (cfgs 0).N) 6).trans h
  simp only [List.flatten_cons, List.flatten_nil, List.append_nil]
  after_results
  rw [e]
  rfl

/-- The kernel runs, its result is the loss of the data its arguments hold, and the arguments end unchanged. -/
theorem kernel_run (g : Dev nD → PrngReg) (D : Dev nD → Data)
    (hR : ∀ c : Dev nD, Reads (D c) (m ((c.tc : Thread nD τ).loc main_arg0)) (m ((c.tc : Thread nD τ).loc main_arg1)) (m ((c.tc : Thread nD τ).loc main_arg3))) :
    θ_run (defs (F := Ideal)) (onTc (τ := τ) (main (F := Ideal))) ⟨m, fun _ => 0, g⟩ (fun r => ∀ c : Dev nD,
      r.2.mem ((c.tc : Thread nD τ).loc main_v19) = (fun _ => (D c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m g) (unchanged m g))
  exact ((h.1 c).2 main_v19 (by decide +kernel)).trans (tail_eq m c _ (final m c (D c) (hR c)))

end Kernel

section Reference

open Cert.ReferenceIdeal Cert.ReferenceIdeal.Gen

variable (m : (ℓ : Loc nD τ sig) → Buf (Elt Ideal) ℓ)

/-- The reference runs, its result is the loss of the data its arguments hold, and the arguments end unchanged. -/
theorem reference_run (g : Dev nD → PrngReg) (D : Dev nD → Data)
    (hR : ∀ c : Dev nD, Reads (D c) (m ((c.tc : Thread nD τ).loc main_arg0)) (m ((c.tc : Thread nD τ).loc main_arg1)) (m ((c.tc : Thread nD τ).loc main_arg3)))
    (hil : ∀ (c : Dev nD) i, (m ((c.tc : Thread nD τ).loc main_arg2) : IVec S8 32) i = 2048#32) :
    θ_run (defs (F := Ideal)) (onTc (τ := τ) (main (F := Ideal))) ⟨m, fun _ => 0, g⟩ (fun r => ∀ c : Dev nD,
      r.2.mem ((c.tc : Thread nD τ).loc main_v107) = (fun _ => (D c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2.1 c⟩) (θ_run_and (Value.run_fold m g) (Ref.frame m g))
  exact (h.1 c main_v107 (by decide)).trans (Ref.result m c (hR c) fun b => hil c _)

end Reference

end Cert.Ctc

end
-- ==== Proof.lean ====
/- The proof of the claims: the programs' runs (Proof/Result.lean) read at the data the arguments hold (Proof/Given.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Given
public import proofs.«01_k».proof.Proof.Result

@[expose] public section

noncomputable section

namespace Cert.Proof

open Idealize.ShloMosaic Idealize.SL.Sem Cert.Ctc

/-- Under the precondition the kernel and the reference end with one result. -/
theorem algebraic : Cert.algebraic_KernelIdeal_ReferenceIdeal_pre_drawn (hKernelIdeal := Cert.KernelIdeal.Gen.facts)
    (hReferenceIdeal := Cert.ReferenceIdeal.Gen.facts) (hPre_drawn := drawn_facts) := by
  intro m g m' g' hpre hargs
  have := drawn_facts
  have hR := fun c : Dev Cert.KernelIdeal.nD => drawn_reads _ _ _ _ (hpre c)
  refine ⟨_, kernel_run m g _ hR, reference_run m' g' _ (fun c => ?_) fun c i => ?_⟩
  · obtain ⟨h0, h1, -, h3⟩ := hargs c
    rw [h0, h1, h3]
    exact hR c
  · obtain ⟨-, -, h2, -⟩ := hargs c
    rw [h2]
    exact (drawn_all _ _ _ _ (hpre c)).2.2.1 i

/-- All the claims. -/
theorem claim : Cert.Claim :=
  ⟨Cert.Kernel.Gen.facts, Cert.KernelIdeal.Gen.facts, Cert.ReferenceIdeal.Gen.facts, drawn_facts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    IdealRules.named_const.statement Cert.KernelIdeal.κ "mask" .f32 0xF149F2CA#32 ⊥ rfl,
    algebraic⟩

end Cert.Proof

end
